-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S4x2048 : Shape := ⟨2, ![4, 2048]⟩
abbrev S128x256 : Shape := ⟨2, ![128, 256]⟩
abbrev S256 : Shape := ⟨1, ![256]⟩
abbrev S_ : Shape := ⟨0, ![]⟩
abbrev S16 : Shape := ⟨1, ![16]⟩
abbrev S1x128x256 : Shape := ⟨3, ![1, 128, 256]⟩
abbrev S1x16 : Shape := ⟨2, ![1, 16]⟩
abbrev S1x256 : Shape := ⟨2, ![1, 256]⟩
abbrev S4x1x2048 : Shape := ⟨3, ![4, 1, 2048]⟩
abbrev S1x256x512 : Shape := ⟨3, ![1, 256, 512]⟩
abbrev S1x1x512 : Shape := ⟨3, ![1, 1, 512]⟩
abbrev S256x512 : Shape := ⟨2, ![256, 512]⟩
abbrev S512 : Shape := ⟨1, ![512]⟩
abbrev S1x512 : Shape := ⟨2, ![1, 512]⟩

abbrev nBuf : Table → Nat
  | .hbm => 9
  | .local .tc .vmem => 6
  | .local .scVector .vmem => 4
  | _ => 0

abbrev bufTy : (tb : Table) → Fin (nBuf tb) → BufTy
  | .hbm, ⟨0, _⟩ => ⟨S4x4096x2048, .f32⟩
  | .hbm, ⟨1, _⟩ => ⟨S4x2048, .f32⟩
  | .hbm, ⟨2, _⟩ => ⟨S4x2048, .i32⟩
  | .hbm, ⟨3, _⟩ => ⟨S4x1x2048, .f32⟩
  | .hbm, ⟨4, _⟩ => ⟨S4x1x2048, .i32⟩
  | .hbm, ⟨5, _⟩ => ⟨S4x2048, .f32⟩
  | .hbm, ⟨6, _⟩ => ⟨S4x2048, .i1⟩
  | .hbm, ⟨7, _⟩ => ⟨S4x2048, .i32⟩
  | .hbm, ⟨8, _⟩ => ⟨S4x2048, .i32⟩
  | .local .tc .vmem, ⟨0, _⟩ => ⟨S1x256x512, .f32⟩
  | .local .tc .vmem, ⟨1, _⟩ => ⟨S1x256x512, .f32⟩
  | .local .tc .vmem, ⟨2, _⟩ => ⟨S1x1x512, .f32⟩
  | .local .tc .vmem, ⟨3, _⟩ => ⟨S1x1x512, .f32⟩
  | .local .tc .vmem, ⟨4, _⟩ => ⟨S1x1x512, .i32⟩
  | .local .tc .vmem, ⟨5, _⟩ => ⟨S1x1x512, .i32⟩
  | .local .scVector .vmem, ⟨0, _⟩ => ⟨S128x256, .f32⟩
  | .local .scVector .vmem, ⟨1, _⟩ => ⟨S128x256, .f32⟩
  | .local .scVector .vmem, ⟨2, _⟩ => ⟨S256, .f32⟩
  | .local .scVector .vmem, ⟨3, _⟩ => ⟨S256, .i32⟩
  | _, _ => ⟨S4x4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2304_i32 : BitVec 32 := 2304#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, 2304, v29.toNat]
@[reducible] def k0_t1_loop : Scf.Loop 32 :=
  let c0_i32_61 : BitVec 32 := 0#32
  let c7_i32 : BitVec 32 := 7#32
  let v166 : BitVec 32 := Scalar.addi c0_i32_61 c7_i32
  let c1_i32_62 : BitVec 32 := 1#32
  ⟨c0_i32_61, v166, c1_i32_62⟩
def k0_cond1 (k0_t1 : Fin k0_t1_loop.trips) : BitVec 1 :=
  let c0_i32_61 : BitVec 32 := 0#32
  let c1_i32_62 : BitVec 32 := 1#32
  let arg11 : BitVec 32 := Scf.iv c0_i32_61 c1_i32_62 k0_t1
  let c2_i32_64 : BitVec 32 := 2#32
  let v168 : BitVec 32 := Scalar.muli arg11 c2_i32_64
  let c0_i32_65 : BitVec 32 := 0#32
  let v169 : BitVec 32 := Scalar.addi v168 c0_i32_65
  let c1_i32_66 : BitVec 32 := 1#32
  let v170 : BitVec 32 := Scalar.addi v169 c1_i32_66
  let c14_i32 : BitVec 32 := 14#32
  let v171 : BitVec 1 := Scalar.cmpi .slt v170 c14_i32
  let v172 : BitVec 32 := Scalar.extui v171
  let c0_i32_67 : BitVec 32 := 0#32
  let v173 : BitVec 1 := Scalar.cmpi .ne v172 c0_i32_67
  v173

def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2304_i32_230 : BitVec 32 := 2304#32
  let c0_i32_61 : BitVec 32 := 0#32
  let c1_i32_62 : BitVec 32 := 1#32
  let arg11 : BitVec 32 := Scf.iv c0_i32_61 c1_i32_62 k0_t1
  let c2_i32_64 : BitVec 32 := 2#32
  let v168 : BitVec 32 := Scalar.muli arg11 c2_i32_64
  let c0_i32_65 : BitVec 32 := 0#32
  let v169 : BitVec 32 := Scalar.addi v168 c0_i32_65
  let c1_i32_228 : BitVec 32 := 1#32
  let v528 : BitVec 32 := Scalar.addi v169 c1_i32_228
  let c128_i32_229 : BitVec 32 := 128#32
  let v529 : BitVec 32 := Scalar.muli v528 c128_i32_229
  let v530 : BitVec 32 := Scalar.addi c2304_i32_230 v529
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v530.toNat, v29.toNat]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2304_i32_68 : BitVec 32 := 2304#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, 2304, v29.toNat]
@[reducible] def k0_t2_loop : Scf.Loop 32 :=
  let c0_i32_87 : BitVec 32 := 0#32
  let c32_i32 : BitVec 32 := 32#32
  let v213 : BitVec 32 := Scalar.addi c0_i32_87 c32_i32
  let c1_i32_88 : BitVec 32 := 1#32
  ⟨c0_i32_87, v213, c1_i32_88⟩
def k0_off4 (k0_t2 : Fin k0_t2_loop.trips) (c0_i32_229 : BitVec 32) : Fin 2 → Nat :=
  let c0_i32_87 : BitVec 32 := 0#32
  let c1_i32_88 : BitVec 32 := 1#32
  let arg13 : BitVec 32 := Scf.iv c0_i32_87 c1_i32_88 k0_t2
  let c4_i32_228 : BitVec 32 := 4#32
  let v531 : BitVec 32 := Scalar.muli arg13 c4_i32_228
  let v532 : BitVec 32 := Scalar.addi v531 c0_i32_229
  let v533 : Index := Scalar.indexCast v532
  let c0_230 : Index := 0#32
  ![v533.toNat, 0]
def k0_off5 (k0_t2 : Fin k0_t2_loop.trips) (c0_i32_229 : BitVec 32) : Fin 2 → Nat :=
  let c0_i32_87 : BitVec 32 := 0#32
  let c1_i32_88 : BitVec 32 := 1#32
  let arg13 : BitVec 32 := Scf.iv c0_i32_87 c1_i32_88 k0_t2
  let c4_i32_228 : BitVec 32 := 4#32
  let v531 : BitVec 32 := Scalar.muli arg13 c4_i32_228
  let v532 : BitVec 32 := Scalar.addi v531 c0_i32_229
  let v539 : Index := Scalar.indexCast v532
  let c16_231 : Index := 16#32
  ![v539.toNat, 16]
def k0_off6 (k0_t2 : Fin k0_t2_loop.trips) (c0_i32_229 : BitVec 32) : Fin 2 → Nat :=
  let c0_i32_87 : BitVec 32 := 0#32
  let c1_i32_88 : BitVec 32 := 1#32
  let arg13 : BitVec 32 := Scf.iv c0_i32_87 c1_i32_88 k0_t2
  let c4_i32_228 : BitVec 32 := 4#32
  let v531 : BitVec 32 := Scalar.muli arg13 c4_i32_228
  let v532 : BitVec 32 := Scalar.addi v531 c0_i32_229
  let v545 : Index := Scalar.indexCast v532
  let c32_232 : Index := 32#32
  ![v545.toNat, 32]
def k0_off7 (k0_t2 : Fin k0_t2_loop.trips) (c0_i32_229 : BitVec 32) : Fin 2 → Nat :=
  let c0_i32_87 : BitVec 32 := 0#32
  let c1_i32_88 : BitVec 32 := 1#32
  let arg13 : BitVec 32 := Scf.iv c0_i32_87 c1_i32_88 k0_t2
  let c4_i32_228 : BitVec 32 := 4#32
  let v531 : BitVec 32 := Scalar.muli arg13 c4_i32_228
  let v532 : BitVec 32 := Scalar.addi v531 c0_i32_229
  let v551 : Index := Scalar.indexCast v532
  let c48_233 : Index := 48#32
  ![v551.toNat, 48]
def k0_off8 (k0_t2 : Fin k0_t2_loop.trips) (c0_i32_229 : BitVec 32) : Fin 2 → Nat :=
  let c0_i32_87 : BitVec 32 := 0#32
  let c1_i32_88 : BitVec 32 := 1#32
  let arg13 : BitVec 32 := Scf.iv c0_i32_87 c1_i32_88 k0_t2
  let c4_i32_228 : BitVec 32 := 4#32
  let v531 : BitVec 32 := Scalar.muli arg13 c4_i32_228
  let v532 : BitVec 32 := Scalar.addi v531 c0_i32_229
  let v557 : Index := Scalar.indexCast v532
  let c64_234 : Index := 64#32
  ![v557.toNat, 64]
def k0_off9 (k0_t2 : Fin k0_t2_loop.trips) (c0_i32_229 : BitVec 32) : Fin 2 → Nat :=
  let c0_i32_87 : BitVec 32 := 0#32
  let c1_i32_88 : BitVec 32 := 1#32
  let arg13 : BitVec 32 := Scf.iv c0_i32_87 c1_i32_88 k0_t2
  let c4_i32_228 : BitVec 32 := 4#32
  let v531 : BitVec 32 := Scalar.muli arg13 c4_i32_228
  let v532 : BitVec 32 := Scalar.addi v531 c0_i32_229
  let v563 : Index := Scalar.indexCast v532
  let c80_235 : Index := 80#32
  ![v563.toNat, 80]
def k0_off10 (k0_t2 : Fin k0_t2_loop.trips) (c0_i32_229 : BitVec 32) : Fin 2 → Nat :=
  let c0_i32_87 : BitVec 32 := 0#32
  let c1_i32_88 : BitVec 32 := 1#32
  let arg13 : BitVec 32 := Scf.iv c0_i32_87 c1_i32_88 k0_t2
  let c4_i32_228 : BitVec 32 := 4#32
  let v531 : BitVec 32 := Scalar.muli arg13 c4_i32_228
  let v532 : BitVec 32 := Scalar.addi v531 c0_i32_229
  let v569 : Index := Scalar.indexCast v532
  let c96_236 : Index := 96#32
  ![v569.toNat, 96]
def k0_off11 (k0_t2 : Fin k0_t2_loop.trips) (c0_i32_229 : BitVec 32) : Fin 2 → Nat :=
  let c0_i32_87 : BitVec 32 := 0#32
  let c1_i32_88 : BitVec 32 := 1#32
  let arg13 : BitVec 32 := Scf.iv c0_i32_87 c1_i32_88 k0_t2
  let c4_i32_228 : BitVec 32 := 4#32
  let v531 : BitVec 32 := Scalar.muli arg13 c4_i32_228
  let v532 : BitVec 32 := Scalar.addi v531 c0_i32_229
  let v575 : Index := Scalar.indexCast v532
  let c112_237 : Index := 112#32
  ![v575.toNat, 112]
@[reducible] def k0_t3_loop : Scf.Loop 32 :=
  let c0_i32_124 : BitVec 32 := 0#32
  let c32_i32_125 : BitVec 32 := 32#32
  let v298 : BitVec 32 := Scalar.addi c0_i32_124 c32_i32_125
  let c1_i32_126 : BitVec 32 := 1#32
  ⟨c0_i32_124, v298, c1_i32_126⟩
def k0_off12 (k0_t3 : Fin k0_t3_loop.trips) (c0_i32_229 : BitVec 32) : Fin 2 → Nat :=
  let c0_i32_124 : BitVec 32 := 0#32
  let c1_i32_126 : BitVec 32 := 1#32
  let arg13 : BitVec 32 := Scf.iv c0_i32_124 c1_i32_126 k0_t3
  let c4_i32_228 : BitVec 32 := 4#32
  let v531 : BitVec 32 := Scalar.muli arg13 c4_i32_228
  let v532 : BitVec 32 := Scalar.addi v531 c0_i32_229
  let v533 : Index := Scalar.indexCast v532
  let c128_230 : Index := 128#32
  ![v533.toNat, 128]
def k0_off13 (k0_t3 : Fin k0_t3_loop.trips) (c0_i32_229 : BitVec 32) : Fin 2 → Nat :=
  let c0_i32_124 : BitVec 32 := 0#32
  let c1_i32_126 : BitVec 32 := 1#32
  let arg13 : BitVec 32 := Scf.iv c0_i32_124 c1_i32_126 k0_t3
  let c4_i32_228 : BitVec 32 := 4#32
  let v531 : BitVec 32 := Scalar.muli arg13 c4_i32_228
  let v532 : BitVec 32 := Scalar.addi v531 c0_i32_229
  let v539 : Index := Scalar.indexCast v532
  let c144_231 : Index := 144#32
  ![v539.toNat, 144]
def k0_off14 (k0_t3 : Fin k0_t3_loop.trips) (c0_i32_229 : BitVec 32) : Fin 2 → Nat :=
  let c0_i32_124 : BitVec 32 := 0#32
  let c1_i32_126 : BitVec 32 := 1#32
  let arg13 : BitVec 32 := Scf.iv c0_i32_124 c1_i32_126 k0_t3
  let c4_i32_228 : BitVec 32 := 4#32
  let v531 : BitVec 32 := Scalar.muli arg13 c4_i32_228
  let v532 : BitVec 32 := Scalar.addi v531 c0_i32_229
  let v545 : Index := Scalar.indexCast v532
  let c160_232 : Index := 160#32
  ![v545.toNat, 160]
def k0_off15 (k0_t3 : Fin k0_t3_loop.trips) (c0_i32_229 : BitVec 32) : Fin 2 → Nat :=
  let c0_i32_124 : BitVec 32 := 0#32
  let c1_i32_126 : BitVec 32 := 1#32
  let arg13 : BitVec 32 := Scf.iv c0_i32_124 c1_i32_126 k0_t3
  let c4_i32_228 : BitVec 32 := 4#32
  let v531 : BitVec 32 := Scalar.muli arg13 c4_i32_228
  let v532 : BitVec 32 := Scalar.addi v531 c0_i32_229
  let v551 : Index := Scalar.indexCast v532
  let c176_233 : Index := 176#32
  ![v551.toNat, 176]
def k0_off16 (k0_t3 : Fin k0_t3_loop.trips) (c0_i32_229 : BitVec 32) : Fin 2 → Nat :=
  let c0_i32_124 : BitVec 32 := 0#32
  let c1_i32_126 : BitVec 32 := 1#32
  let arg13 : BitVec 32 := Scf.iv c0_i32_124 c1_i32_126 k0_t3
  let c4_i32_228 : BitVec 32 := 4#32
  let v531 : BitVec 32 := Scalar.muli arg13 c4_i32_228
  let v532 : BitVec 32 := Scalar.addi v531 c0_i32_229
  let v557 : Index := Scalar.indexCast v532
  let c192_234 : Index := 192#32
  ![v557.toNat, 192]
def k0_off17 (k0_t3 : Fin k0_t3_loop.trips) (c0_i32_229 : BitVec 32) : Fin 2 → Nat :=
  let c0_i32_124 : BitVec 32 := 0#32
  let c1_i32_126 : BitVec 32 := 1#32
  let arg13 : BitVec 32 := Scf.iv c0_i32_124 c1_i32_126 k0_t3
  let c4_i32_228 : BitVec 32 := 4#32
  let v531 : BitVec 32 := Scalar.muli arg13 c4_i32_228
  let v532 : BitVec 32 := Scalar.addi v531 c0_i32_229
  let v563 : Index := Scalar.indexCast v532
  let c208_235 : Index := 208#32
  ![v563.toNat, 208]
def k0_off18 (k0_t3 : Fin k0_t3_loop.trips) (c0_i32_229 : BitVec 32) : Fin 2 → Nat :=
  let c0_i32_124 : BitVec 32 := 0#32
  let c1_i32_126 : BitVec 32 := 1#32
  let arg13 : BitVec 32 := Scf.iv c0_i32_124 c1_i32_126 k0_t3
  let c4_i32_228 : BitVec 32 := 4#32
  let v531 : BitVec 32 := Scalar.muli arg13 c4_i32_228
  let v532 : BitVec 32 := Scalar.addi v531 c0_i32_229
  let v569 : Index := Scalar.indexCast v532
  let c224_236 : Index := 224#32
  ![v569.toNat, 224]
def k0_off19 (k0_t3 : Fin k0_t3_loop.trips) (c0_i32_229 : BitVec 32) : Fin 2 → Nat :=
  let c0_i32_124 : BitVec 32 := 0#32
  let c1_i32_126 : BitVec 32 := 1#32
  let arg13 : BitVec 32 := Scf.iv c0_i32_124 c1_i32_126 k0_t3
  let c4_i32_228 : BitVec 32 := 4#32
  let v531 : BitVec 32 := Scalar.muli arg13 c4_i32_228
  let v532 : BitVec 32 := Scalar.addi v531 c0_i32_229
  let v575 : Index := Scalar.indexCast v532
  let c240_237 : Index := 240#32
  ![v575.toNat, 240]
def k0_cond2 (k0_t1 : Fin k0_t1_loop.trips) : BitVec 1 :=
  let c0_i32_61 : BitVec 32 := 0#32
  let c1_i32_62 : BitVec 32 := 1#32
  let arg11 : BitVec 32 := Scf.iv c0_i32_61 c1_i32_62 k0_t1
  let c2_i32_144 : BitVec 32 := 2#32
  let v348 : BitVec 32 := Scalar.muli arg11 c2_i32_144
  let c1_i32_145 : BitVec 32 := 1#32
  let v349 : BitVec 32 := Scalar.addi v348 c1_i32_145
  let c1_i32_146 : BitVec 32 := 1#32
  let v350 : BitVec 32 := Scalar.addi v349 c1_i32_146
  let c14_i32_147 : BitVec 32 := 14#32
  let v351 : BitVec 1 := Scalar.cmpi .slt v350 c14_i32_147
  let v352 : BitVec 32 := Scalar.extui v351
  let c0_i32_148 : BitVec 32 := 0#32
  let v353 : BitVec 1 := Scalar.cmpi .ne v352 c0_i32_148
  v353

def k0_off20 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2304_i32_230 : BitVec 32 := 2304#32
  let c0_i32_61 : BitVec 32 := 0#32
  let c1_i32_62 : BitVec 32 := 1#32
  let arg11 : BitVec 32 := Scf.iv c0_i32_61 c1_i32_62 k0_t1
  let c2_i32_144 : BitVec 32 := 2#32
  let v348 : BitVec 32 := Scalar.muli arg11 c2_i32_144
  let c1_i32_145 : BitVec 32 := 1#32
  let v349 : BitVec 32 := Scalar.addi v348 c1_i32_145
  let c1_i32_228 : BitVec 32 := 1#32
  let v528 : BitVec 32 := Scalar.addi v349 c1_i32_228
  let c128_i32_229 : BitVec 32 := 128#32
  let v529 : BitVec 32 := Scalar.muli v528 c128_i32_229
  let v530 : BitVec 32 := Scalar.addi c2304_i32_230 v529
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v530.toNat, v29.toNat]
@[reducible] def k0_t4_loop : Scf.Loop 32 :=
  let c0_i32_169 : BitVec 32 := 0#32
  let c32_i32_170 : BitVec 32 := 32#32
  let v393 : BitVec 32 := Scalar.addi c0_i32_169 c32_i32_170
  let c1_i32_171 : BitVec 32 := 1#32
  ⟨c0_i32_169, v393, c1_i32_171⟩
def k0_off21 (k0_t4 : Fin k0_t4_loop.trips) (c0_i32_229 : BitVec 32) : Fin 2 → Nat :=
  let c0_i32_169 : BitVec 32 := 0#32
  let c1_i32_171 : BitVec 32 := 1#32
  let arg13 : BitVec 32 := Scf.iv c0_i32_169 c1_i32_171 k0_t4
  let c4_i32_228 : BitVec 32 := 4#32
  let v531 : BitVec 32 := Scalar.muli arg13 c4_i32_228
  let v532 : BitVec 32 := Scalar.addi v531 c0_i32_229
  let v533 : Index := Scalar.indexCast v532
  let c0_230 : Index := 0#32
  ![v533.toNat, 0]
def k0_off22 (k0_t4 : Fin k0_t4_loop.trips) (c0_i32_229 : BitVec 32) : Fin 2 → Nat :=
  let c0_i32_169 : BitVec 32 := 0#32
  let c1_i32_171 : BitVec 32 := 1#32
  let arg13 : BitVec 32 := Scf.iv c0_i32_169 c1_i32_171 k0_t4
  let c4_i32_228 : BitVec 32 := 4#32
  let v531 : BitVec 32 := Scalar.muli arg13 c4_i32_228
  let v532 : BitVec 32 := Scalar.addi v531 c0_i32_229
  let v539 : Index := Scalar.indexCast v532
  let c16_231 : Index := 16#32
  ![v539.toNat, 16]
def k0_off23 (k0_t4 : Fin k0_t4_loop.trips) (c0_i32_229 : BitVec 32) : Fin 2 → Nat :=
  let c0_i32_169 : BitVec 32 := 0#32
  let c1_i32_171 : BitVec 32 := 1#32
  let arg13 : BitVec 32 := Scf.iv c0_i32_169 c1_i32_171 k0_t4
  let c4_i32_228 : BitVec 32 := 4#32
  let v531 : BitVec 32 := Scalar.muli arg13 c4_i32_228
  let v532 : BitVec 32 := Scalar.addi v531 c0_i32_229
  let v545 : Index := Scalar.indexCast v532
  let c32_232 : Index := 32#32
  ![v545.toNat, 32]
def k0_off24 (k0_t4 : Fin k0_t4_loop.trips) (c0_i32_229 : BitVec 32) : Fin 2 → Nat :=
  let c0_i32_169 : BitVec 32 := 0#32
  let c1_i32_171 : BitVec 32 := 1#32
  let arg13 : BitVec 32 := Scf.iv c0_i32_169 c1_i32_171 k0_t4
  let c4_i32_228 : BitVec 32 := 4#32
  let v531 : BitVec 32 := Scalar.muli arg13 c4_i32_228
  let v532 : BitVec 32 := Scalar.addi v531 c0_i32_229
  let v551 : Index := Scalar.indexCast v532
  let c48_233 : Index := 48#32
  ![v551.toNat, 48]
def k0_off25 (k0_t4 : Fin k0_t4_loop.trips) (c0_i32_229 : BitVec 32) : Fin 2 → Nat :=
  let c0_i32_169 : BitVec 32 := 0#32
  let c1_i32_171 : BitVec 32 := 1#32
  let arg13 : BitVec 32 := Scf.iv c0_i32_169 c1_i32_171 k0_t4
  let c4_i32_228 : BitVec 32 := 4#32
  let v531 : BitVec 32 := Scalar.muli arg13 c4_i32_228
  let v532 : BitVec 32 := Scalar.addi v531 c0_i32_229
  let v557 : Index := Scalar.indexCast v532
  let c64_234 : Index := 64#32
  ![v557.toNat, 64]
def k0_off26 (k0_t4 : Fin k0_t4_loop.trips) (c0_i32_229 : BitVec 32) : Fin 2 → Nat :=
  let c0_i32_169 : BitVec 32 := 0#32
  let c1_i32_171 : BitVec 32 := 1#32
  let arg13 : BitVec 32 := Scf.iv c0_i32_169 c1_i32_171 k0_t4
  let c4_i32_228 : BitVec 32 := 4#32
  let v531 : BitVec 32 := Scalar.muli arg13 c4_i32_228
  let v532 : BitVec 32 := Scalar.addi v531 c0_i32_229
  let v563 : Index := Scalar.indexCast v532
  let c80_235 : Index := 80#32
  ![v563.toNat, 80]
def k0_off27 (k0_t4 : Fin k0_t4_loop.trips) (c0_i32_229 : BitVec 32) : Fin 2 → Nat :=
  let c0_i32_169 : BitVec 32 := 0#32
  let c1_i32_171 : BitVec 32 := 1#32
  let arg13 : BitVec 32 := Scf.iv c0_i32_169 c1_i32_171 k0_t4
  let c4_i32_228 : BitVec 32 := 4#32
  let v531 : BitVec 32 := Scalar.muli arg13 c4_i32_228
  let v532 : BitVec 32 := Scalar.addi v531 c0_i32_229
  let v569 : Index := Scalar.indexCast v532
  let c96_236 : Index := 96#32
  ![v569.toNat, 96]
def k0_off28 (k0_t4 : Fin k0_t4_loop.trips) (c0_i32_229 : BitVec 32) : Fin 2 → Nat :=
  let c0_i32_169 : BitVec 32 := 0#32
  let c1_i32_171 : BitVec 32 := 1#32
  let arg13 : BitVec 32 := Scf.iv c0_i32_169 c1_i32_171 k0_t4
  let c4_i32_228 : BitVec 32 := 4#32
  let v531 : BitVec 32 := Scalar.muli arg13 c4_i32_228
  let v532 : BitVec 32 := Scalar.addi v531 c0_i32_229
  let v575 : Index := Scalar.indexCast v532
  let c112_237 : Index := 112#32
  ![v575.toNat, 112]
@[reducible] def k0_t5_loop : Scf.Loop 32 :=
  let c0_i32_207 : BitVec 32 := 0#32
  let c32_i32_208 : BitVec 32 := 32#32
  let v478 : BitVec 32 := Scalar.addi c0_i32_207 c32_i32_208
  let c1_i32_209 : BitVec 32 := 1#32
  ⟨c0_i32_207, v478, c1_i32_209⟩
def k0_off29 (k0_t5 : Fin k0_t5_loop.trips) (c0_i32_229 : BitVec 32) : Fin 2 → Nat :=
  let c0_i32_207 : BitVec 32 := 0#32
  let c1_i32_209 : BitVec 32 := 1#32
  let arg13 : BitVec 32 := Scf.iv c0_i32_207 c1_i32_209 k0_t5
  let c4_i32_228 : BitVec 32 := 4#32
  let v531 : BitVec 32 := Scalar.muli arg13 c4_i32_228
  let v532 : BitVec 32 := Scalar.addi v531 c0_i32_229
  let v533 : Index := Scalar.indexCast v532
  let c128_230 : Index := 128#32
  ![v533.toNat, 128]
def k0_off30 (k0_t5 : Fin k0_t5_loop.trips) (c0_i32_229 : BitVec 32) : Fin 2 → Nat :=
  let c0_i32_207 : BitVec 32 := 0#32
  let c1_i32_209 : BitVec 32 := 1#32
  let arg13 : BitVec 32 := Scf.iv c0_i32_207 c1_i32_209 k0_t5
  let c4_i32_228 : BitVec 32 := 4#32
  let v531 : BitVec 32 := Scalar.muli arg13 c4_i32_228
  let v532 : BitVec 32 := Scalar.addi v531 c0_i32_229
  let v539 : Index := Scalar.indexCast v532
  let c144_231 : Index := 144#32
  ![v539.toNat, 144]
def k0_off31 (k0_t5 : Fin k0_t5_loop.trips) (c0_i32_229 : BitVec 32) : Fin 2 → Nat :=
  let c0_i32_207 : BitVec 32 := 0#32
  let c1_i32_209 : BitVec 32 := 1#32
  let arg13 : BitVec 32 := Scf.iv c0_i32_207 c1_i32_209 k0_t5
  let c4_i32_228 : BitVec 32 := 4#32
  let v531 : BitVec 32 := Scalar.muli arg13 c4_i32_228
  let v532 : BitVec 32 := Scalar.addi v531 c0_i32_229
  let v545 : Index := Scalar.indexCast v532
  let c160_232 : Index := 160#32
  ![v545.toNat, 160]
def k0_off32 (k0_t5 : Fin k0_t5_loop.trips) (c0_i32_229 : BitVec 32) : Fin 2 → Nat :=
  let c0_i32_207 : BitVec 32 := 0#32
  let c1_i32_209 : BitVec 32 := 1#32
  let arg13 : BitVec 32 := Scf.iv c0_i32_207 c1_i32_209 k0_t5
  let c4_i32_228 : BitVec 32 := 4#32
  let v531 : BitVec 32 := Scalar.muli arg13 c4_i32_228
  let v532 : BitVec 32 := Scalar.addi v531 c0_i32_229
  let v551 : Index := Scalar.indexCast v532
  let c176_233 : Index := 176#32
  ![v551.toNat, 176]
def k0_off33 (k0_t5 : Fin k0_t5_loop.trips) (c0_i32_229 : BitVec 32) : Fin 2 → Nat :=
  let c0_i32_207 : BitVec 32 := 0#32
  let c1_i32_209 : BitVec 32 := 1#32
  let arg13 : BitVec 32 := Scf.iv c0_i32_207 c1_i32_209 k0_t5
  let c4_i32_228 : BitVec 32 := 4#32
  let v531 : BitVec 32 := Scalar.muli arg13 c4_i32_228
  let v532 : BitVec 32 := Scalar.addi v531 c0_i32_229
  let v557 : Index := Scalar.indexCast v532
  let c192_234 : Index := 192#32
  ![v557.toNat, 192]
def k0_off34 (k0_t5 : Fin k0_t5_loop.trips) (c0_i32_229 : BitVec 32) : Fin 2 → Nat :=
  let c0_i32_207 : BitVec 32 := 0#32
  let c1_i32_209 : BitVec 32 := 1#32
  let arg13 : BitVec 32 := Scf.iv c0_i32_207 c1_i32_209 k0_t5
  let c4_i32_228 : BitVec 32 := 4#32
  let v531 : BitVec 32 := Scalar.muli arg13 c4_i32_228
  let v532 : BitVec 32 := Scalar.addi v531 c0_i32_229
  let v563 : Index := Scalar.indexCast v532
  let c208_235 : Index := 208#32
  ![v563.toNat, 208]
def k0_off35 (k0_t5 : Fin k0_t5_loop.trips) (c0_i32_229 : BitVec 32) : Fin 2 → Nat :=
  let c0_i32_207 : BitVec 32 := 0#32
  let c1_i32_209 : BitVec 32 := 1#32
  let arg13 : BitVec 32 := Scf.iv c0_i32_207 c1_i32_209 k0_t5
  let c4_i32_228 : BitVec 32 := 4#32
  let v531 : BitVec 32 := Scalar.muli arg13 c4_i32_228
  let v532 : BitVec 32 := Scalar.addi v531 c0_i32_229
  let v569 : Index := Scalar.indexCast v532
  let c224_236 : Index := 224#32
  ![v569.toNat, 224]
def k0_off36 (k0_t5 : Fin k0_t5_loop.trips) (c0_i32_229 : BitVec 32) : Fin 2 → Nat :=
  let c0_i32_207 : BitVec 32 := 0#32
  let c1_i32_209 : BitVec 32 := 1#32
  let arg13 : BitVec 32 := Scf.iv c0_i32_207 c1_i32_209 k0_t5
  let c4_i32_228 : BitVec 32 := 4#32
  let v531 : BitVec 32 := Scalar.muli arg13 c4_i32_228
  let v532 : BitVec 32 := Scalar.addi v531 c0_i32_229
  let v575 : Index := Scalar.indexCast v532
  let c240_237 : Index := 240#32
  ![v575.toNat, 240]
def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v29.toNat]
abbrev grid1 : Pipeline.Grid := ⟨3, ![4, 4, 9], ![false, false, false]⟩

def k1_cond1 (i : grid1.Coords) : BitVec 1 :=
  let arg2 : BitVec 32 := BitVec.ofNat 32 (i 2).val
  let c0_i32 : BitVec 32 := 0#32
  let v14 : BitVec 1 := Scalar.cmpi .eq arg2 c0_i32
  let v15 : BitVec 32 := Scalar.extui v14
  let c0_i32_4 : BitVec 32 := 0#32
  let v16 : BitVec 1 := Scalar.cmpi .ne v15 c0_i32_4
  v16

def k1_cond2 (i : grid1.Coords) : BitVec 1 :=
  let arg2 : BitVec 32 := BitVec.ofNat 32 (i 2).val
  let c0_i32_5 : BitVec 32 := 0#32
  let v17 : BitVec 1 := Scalar.cmpi .ne arg2 c0_i32_5
  let v18 : BitVec 32 := Scalar.extui v17
  let c0_i32_6 : BitVec 32 := 0#32
  let v19 : BitVec 1 := Scalar.cmpi .ne v18 c0_i32_6
  v19

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S_ : Shape := ⟨0, ![]⟩
abbrev S4x2048 : Shape := ⟨2, ![4, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .i32⟩
  | .hbm, ⟨2, _⟩ => ⟨S_, .f32⟩
  | .hbm, ⟨3, _⟩ => ⟨S_, .i32⟩
  | .hbm, ⟨4, _⟩ => ⟨S4x2048, .f32⟩
  | .hbm, ⟨5, _⟩ => ⟨S4x2048, .i32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== Proof.Base.lean ====
/-
  The setting that every module of this proof shares: the program as the SparseCore launch theorem reads it, the
  ghost state, the names of the kernel's memrefs on a vector subcore, and the scan that a vector subcore runs over the
  rows of a staged block (`step`, `fold`).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Pipeline.Value
public import Idealize.ShloMosaic.Lib.Writes
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Argmin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program: those of its own functions and one for the TensorCore pipeline. -/
abbrev ΛP : Labels := Pipeline.Sig Λ₀ (Fin 1) fun p => (pcfgs (F := F) p).Adm
/-- The SparseCore call, as the launch theorem takes it. -/
abbrev K [FloatOps F] : SparseCore.Cfg τ sig (ΛP (F := F)) 1 := sc (F := F)
/-- The program's functions with the pipeline's beside them. -/
abbrev D [FloatOps F] : Defs nD τ sig (Elt F) (ΛP (F := F)) := Pipeline.defs pcfgs defs₀
/-- No function needs a variant: every loop is counted. -/
abbrev 𝒱₀ : Variants := Variants.none
/-- The same for the program with the pipeline's label. -/
abbrev 𝒱 : Variants := 𝒱₀.lift
/-- The variant that the threads start with. -/
abbrev v₀ : 𝒱.V := Sum.inl none

/-! ## The ghost state: the handshakes' rounds, the TensorCore pipeline's rounds, the transfers' counters -/

/-- The rounds of the launch's handshakes. -/
abbrev UH : Type := URounds (GSem nD τ sig) ℕ
/-- The rounds of the TensorCore pipeline's copies. -/
abbrev UP : Type := URounds (GSem nD τ sig) Unit
/-- All of the ghost state. -/
abbrev UU : Type := UH × UP × Counters

/-! ## The scan -/

/-- Entry `(r, c)` of a staged block (row and column read modulo the block's bounds, so that every pair names one). -/
def at2 (r c : ℕ) : S128x256.Idx := fun | 0 => ⟨r % 128, Nat.mod_lt _ (by decide)⟩ | 1 => ⟨c % 256, Nat.mod_lt _ (by decide)⟩

/-- Sixteen lanes of row `r` of a staged block, from column `c` on, as the kernel loads them. -/
def lanes1 (fb : S128x256.Idx → F .f32) (r c : ℕ) : Vec F S1x16 .f32 := fun x => fb (at2 r (c + (x 1).val))

/-- The same as a sixteen-lane register. -/
def lanes (fb : S128x256.Idx → F .f32) (r c : ℕ) : FVec F S16 .f32 := shapeCast S16 (lanes1 fb r c) shapeCasts_S1x16_S16

variable [FloatOps F]

/-- One row against the running minimum: where the row's lane is strictly below it, the lane and the row's number. -/
def step (v : Vec F S16 .f32) (ri : IVec S16 32) (s : FVec F S16 .f32 × IVec S16 32) : FVec F S16 .f32 × IVec S16 32 :=
  (select (cmpf .olt v s.1) v s.1, select (cmpf .olt v s.1) ri s.2)

/-- The first `n` rows of a staged block, scanned into `s`: row `r` carries the number `base + r`. -/
def fold (fb : S128x256.Idx → F .f32) (c : ℕ) (base : IVec S16 32) : ℕ → FVec F S16 .f32 × IVec S16 32 → FVec F S16 .f32 × IVec S16 32
  | 0, s => s
  | n + 1, s => step (lanes fb n c) (fun x => base x + BitVec.ofNat 32 n) (fold fb c base n s)

end Cert.Argmin

end
-- ==== Proof.Lanes.lean ====
/-
  The buffers of a tile and one step of the scan on sixteen lanes.
-/
module

public import proofs.«01_k».proof.Proof.Base

@[expose] public section

set_option maxRecDepth 16384

noncomputable section

namespace Cert.Argmin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The operand, as a tile names it. -/
abbrev xW : Memref sig Kind.scVector Space.hbm S4x4096x2048 EltTy.f32 := Memref.whole main_arg0_scv
/-- The result array of minima, as a tile names it. -/
abbrev vW : Memref sig Kind.scVector Space.hbm S4x2048 EltTy.f32 := Memref.whole main_v0_0_scv
/-- The result array of rows, as a tile names it. -/
abbrev iW : Memref sig Kind.scVector Space.hbm S4x2048 EltTy.i32 := Memref.whole main_v0_1_scv
/-- The first of the two staged blocks. -/
abbrev b0 : Memref sig Kind.scVector Space.vmem S128x256 EltTy.f32 := Memref.whole cc0_scratch0
/-- The second of the two staged blocks. -/
abbrev b1 : Memref sig Kind.scVector Space.vmem S128x256 EltTy.f32 := Memref.whole cc0_scratch1
/-- The tile's running minima. -/
abbrev mV : Memref sig Kind.scVector Space.vmem S256 EltTy.f32 := Memref.whole cc0_scratch2
/-- The rows of the tile's running minima. -/
abbrev mI : Memref sig Kind.scVector Space.vmem S256 EltTy.i32 := Memref.whole cc0_scratch3

/-- The SparseCore of grid point `L`. -/
abbrev cV (L : grid0.Coords) : Fin τ.nSC := (L 0).castLE hcore0
/-- The tile of grid point `L` in its SparseCore. -/
abbrev jV (L : grid0.Coords) : Fin τ.nSub := (L 1).castLE hsub0
/-- The thread that runs grid point `L` on device `d`. -/
abbrev thr (d : Dev nD) (L : grid0.Coords) : Thread nD τ := V d (cV L) (jV L)

/-- Sixteen lanes of minima and of their rows. -/
abbrev FI (F : FTy → Type) : Type := FVec F S16 .f32 × IVec S16 32

/-- What a counted loop carries: the row numbers, eight groups of running minima, eight groups of their rows. -/
def carry (fb : S128x256.Idx → F .f32) (c : ℕ) (base : IVec S16 32) (s0 s1 s2 s3 s4 s5 s6 s7 : FI F) (k : ℕ) :
    IVec S16 32 × FVec F S16 .f32 × FVec F S16 .f32 × FVec F S16 .f32 × FVec F S16 .f32 × FVec F S16 .f32 × FVec F S16 .f32 × FVec F S16 .f32 × FVec F S16 .f32 × IVec S16 32 × IVec S16 32 × IVec S16 32 × IVec S16 32 × IVec S16 32 × IVec S16 32 × IVec S16 32 × IVec S16 32 :=
  (fun x => base x + BitVec.ofNat 32 (4 * k),
    (fold fb (c + 0) base (4 * k) s0).1, (fold fb (c + 16) base (4 * k) s1).1, (fold fb (c + 32) base (4 * k) s2).1, (fold fb (c + 48) base (4 * k) s3).1,
    (fold fb (c + 64) base (4 * k) s4).1, (fold fb (c + 80) base (4 * k) s5).1, (fold fb (c + 96) base (4 * k) s6).1, (fold fb (c + 112) base (4 * k) s7).1,
    (fold fb (c + 0) base (4 * k) s0).2, (fold fb (c + 16) base (4 * k) s1).2, (fold fb (c + 32) base (4 * k) s2).2, (fold fb (c + 48) base (4 * k) s3).2,
    (fold fb (c + 64) base (4 * k) s4).2, (fold fb (c + 80) base (4 * k) s5).2, (fold fb (c + 96) base (4 * k) s6).2, (fold fb (c + 112) base (4 * k) s7).2)

/-- A load of sixteen lanes at `![r, c]` of a whole staged block. -/
theorem readAt_b0 (fb : S128x256.Idx → F .f32) (off : Fin 2 → ℕ) (h : ∀ a, off a + S1x16.size a ≤ S128x256.size a) (r c : ℕ) (e : off = ![r, c]) :
    b0.view.readAt (Elt F) (Rect.unit (s := S128x256) off S1x16.size h).toLoadRect fb = lanes1 fb r c := by
  subst e
  have h0 : r + 1 ≤ 128 := h 0
  have h1 : c + 16 ≤ 256 := h 1
  funext x
  simp only [View.readAt_apply, Memref.view_whole, View.read_whole, lanes1]
  have hx0 : (x 0).val < 1 := (x 0).isLt
  have hx1 : (x 1).val < 16 := (x 1).isLt
  congr 1; funext a; apply Fin.ext
  rw [LoadRect.idx_apply]
  match a with
  | 0 => show r + 1 * (x 0).val = r % 128; rw [Nat.mod_eq_of_lt (by omega)]; omega
  | 1 => show c + 1 * (x 1).val = (c + (x 1).val) % 256; rw [Nat.mod_eq_of_lt (by omega)]; omega

/-- The same of the second staged block. -/
theorem readAt_b1 (fb : S128x256.Idx → F .f32) (off : Fin 2 → ℕ) (h : ∀ a, off a + S1x16.size a ≤ S128x256.size a) (r c : ℕ) (e : off = ![r, c]) :
    b1.view.readAt (Elt F) (Rect.unit (s := S128x256) off S1x16.size h).toLoadRect fb = lanes1 fb r c := by
  subst e
  have h0 : r + 1 ≤ 128 := h 0
  have h1 : c + 16 ≤ 256 := h 1
  funext x
  simp only [View.readAt_apply, Memref.view_whole, View.read_whole, lanes1]
  have hx0 : (x 0).val < 1 := (x 0).isLt
  have hx1 : (x 1).val < 16 := (x 1).isLt
  congr 1; funext a; apply Fin.ext
  rw [LoadRect.idx_apply]
  match a with
  | 0 => show r + 1 * (x 0).val = r % 128; rw [Nat.mod_eq_of_lt (by omega)]; omega
  | 1 => show c + 1 * (x 1).val = (c + (x 1).val) % 256; rw [Nat.mod_eq_of_lt (by omega)]; omega

/-- The row numbers, moved on by a constant. -/
theorem rows_add (base : IVec S16 32) (k j : ℕ) :
    (addi (fun x => base x + BitVec.ofNat 32 (4 * k)) (fun _ => BitVec.ofNat 32 j) : IVec S16 32) = fun x => base x + BitVec.ofNat 32 (4 * k + j) := by
  funext x
  show base x + BitVec.ofNat 32 (4 * k) + BitVec.ofNat 32 j = _
  rw [BitVec.add_assoc, ← BitVec.ofNat_add]

end Cert.Argmin

end
-- ==== Proof.Cell.lean ====
/-
  Which part of the array a tile scans, and what the scan of a column leaves.
-/
module

public import proofs.«01_k».proof.Proof.Lanes

@[expose] public section

set_option maxRecDepth 16384

noncomputable section

namespace Cert.Argmin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Which part of the array a tile scans -/

/-- Tile `L`'s batch, and the first of its 256 columns: the tiles numbered `2·subcore + core`, eight to a batch. -/
def bOf (L : grid0.Coords) : ℕ := (2 * (L 1).val + (L 0).val) / 8
/-- The first of the 256 columns of tile `L`. -/
def cOf (L : grid0.Coords) : ℕ := (2 * (L 1).val + (L 0).val) % 8 * 256

/-- The first copy starts at row 2304 of the tile's columns. -/
theorem off1_eq : ∀ L : grid0.Coords, k0_off1 L = ![bOf L, 2304 + 128 * 0, cOf L] := by decide +kernel

/-- Trip `k`'s first copy fetches chunk `2k + 1`. -/
theorem off2_eq : ∀ (L : grid0.Coords) (k : Fin k0_t1_loop.trips), k0_off2 L k = ![bOf L, 2304 + 128 * (2 * k.val + 1), cOf L] := by decide +kernel

/-- Trip `k`'s second copy fetches chunk `2k + 2`. -/
theorem off20_eq : ∀ (L : grid0.Coords) (k : Fin k0_t1_loop.trips), k0_off20 L k = ![bOf L, 2304 + 128 * (2 * k.val + 2), cOf L] := by decide +kernel

/-- The copies out go to the tile's batch and columns. -/
theorem off37_eq : ∀ L : grid0.Coords, k0_off37 L = ![bOf L, cOf L] := by decide +kernel

/-- Every trip starts its first copy. -/
theorem cond1_true : ∀ k : Fin k0_t1_loop.trips, k0_cond1 k = 1#1 := by decide +kernel

/-- Every trip but the last starts its second copy. -/
theorem cond2_true : ∀ k : Fin k0_t1_loop.trips, k.val < 6 → k0_cond2 k = 1#1 := by decide +kernel

/-- The last trip starts no second copy. -/
theorem cond2_false : ∀ k : Fin k0_t1_loop.trips, ¬ k.val < 6 → ¬ k0_cond2 k = 1#1 := by decide +kernel

/-- A tile's batch is one of the four. -/
theorem bOf_lt : ∀ L : grid0.Coords, bOf L < 4 := by decide +kernel

/-- A tile's columns are inside the array. -/
theorem cOf_le : ∀ L : grid0.Coords, cOf L + 256 ≤ 2048 := by decide +kernel

/-- Entry `(b, r, c)` of the operand (each coordinate read modulo its bound). -/
def at3 (b r c : ℕ) : S4x4096x2048.Idx := fun
  | 0 => ⟨b % 4, Nat.mod_lt _ (by decide)⟩ | 1 => ⟨r % 4096, Nat.mod_lt _ (by decide)⟩ | 2 => ⟨c % 2048, Nat.mod_lt _ (by decide)⟩

/-- Entry `c` of a 256-lane row. -/
def at1 (c : ℕ) : S256.Idx := fun | 0 => ⟨c % 256, Nat.mod_lt _ (by decide)⟩

/-- Tile `L`'s chunk `g`: 128 rows from row `2304 + 128·g` on, its 256 columns. -/
def chunk (fx : S4x4096x2048.Idx → F .f32) (L : grid0.Coords) (g : ℕ) : S128x256.Idx → F .f32 :=
  fun y => fx (at3 (bOf L) (2304 + 128 * g + (y 0).val) (cOf L + (y 1).val))

/-- What a tile's copy of a chunk reads. -/
theorem read_chunk (fx : S4x4096x2048.Idx → F .f32) (L : grid0.Coords) (g : ℕ) (off : Fin 3 → ℕ)
    (h : ∀ a, off a + S1x128x256.size a ≤ S4x4096x2048.size a) (e : off = ![bOf L, 2304 + 128 * g, cOf L]) (hs) (sq) :
    ((xW.slice (Rect.unit (s := S4x4096x2048) off S1x128x256.size h) hs).squeeze S128x256 sq).view.read (Elt F) fx = chunk fx L g := by
  subst e
  have h0 : bOf L + 1 ≤ 4 := h 0
  have h1 : 2304 + 128 * g + 128 ≤ 4096 := h 1
  have h2 : cOf L + 256 ≤ 2048 := h 2
  funext y
  show shapeCast S128x256 ((xW.view.slice (Rect.unit (s := S4x4096x2048) ![bOf L, 2304 + 128 * g, cOf L] S1x128x256.size h)).read (Elt F) fx) (show S1x128x256.ShapeCasts S128x256 by decide) y = _
  rw [shapeCast_dropUnit_apply ![128, 256]]
  have hy0 : (y 0).val < 128 := (y 0).isLt
  have hy1 : (y 1).val < 256 := (y 1).isLt
  show fx _ = fx _
  congr 1; funext a; apply Fin.ext
  match a with
  | 0 => show bOf L + 1 * 0 = bOf L % 4; omega
  | 1 => show 2304 + 128 * g + 1 * (y 0).val = (2304 + 128 * g + (y 0).val) % 4096; omega
  | 2 => show cOf L + 1 * (y 1).val = (cOf L + (y 1).val) % 2048; omega

/-! ## The scan of one column -/

/-- Column `c` of tile `L`, from row 2304 down. -/
def column (fx : S4x4096x2048.Idx → F .f32) (L : grid0.Coords) (c n : ℕ) : F .f32 := fx (at3 (bOf L) (2304 + n) (cOf L + c))

/-- The running minimum of a column and its row after `n` rows. -/
def cell (col : ℕ → F .f32) : ℕ → F .f32 × BitVec 32
  | 0 => (Scalar.ofBits .f32 0x7F800000#32, 0#32)
  | n + 1 =>
    (Scalar.select (FloatOps.cmpf .olt (col n) (cell col n).1) (col n) (cell col n).1,
      Scalar.select (FloatOps.cmpf .olt (col n) (cell col n).1) (BitVec.ofNat 32 (2304 + n)) (cell col n).2)

/-- The running minima of tile `L`'s columns after `n` rows. -/
def scanF (fx : S4x4096x2048.Idx → F .f32) (L : grid0.Coords) (n : ℕ) : S256.Idx → F .f32 := fun y => (cell (column fx L (y 0).val) n).1
/-- The rows of those minima after `n` rows. -/
def scanI (fx : S4x4096x2048.Idx → F .f32) (L : grid0.Coords) (n : ℕ) : S256.Idx → BitVec 32 := fun y => (cell (column fx L (y 0).val) n).2

/-- Lane `x` of sixteen lanes of a row is the entry `x` columns on. -/
theorem lanes_apply (fb : S128x256.Idx → F .f32) (r c : ℕ) (x : S16.Idx) : lanes fb r c x = fb (at2 r (c + (x 0).val)) := by
  unfold lanes
  rw [shapeCast_dropUnit_apply ![16]]
  rfl

/-- A chunk scanned into what its columns had before it. -/
theorem fold_chunk (fx : S4x4096x2048.Idx → F .f32) (L : grid0.Coords) (g c : ℕ) (hc : c + 16 ≤ 256) (base : IVec S16 32)
    (hb : base = fun _ => BitVec.ofNat 32 (2304 + 128 * g)) (s : FI F)
    (hs : ∀ x, (s.1 x, s.2 x) = cell (column fx L (c + (x 0).val)) (128 * g)) (x : S16.Idx) :
    ∀ n, n ≤ 128 → ((fold (chunk fx L g) c base n s).1 x, (fold (chunk fx L g) c base n s).2 x) = cell (column fx L (c + (x 0).val)) (128 * g + n)
  | 0, _ => hs x
  | n + 1, hn => by
    have ih := fold_chunk fx L g c hc base hb s hs x n (by omega)
    have hx : (x 0).val < 16 := (x 0).isLt
    have hv : lanes (chunk fx L g) n c x = column fx L (c + (x 0).val) (128 * g + n) := by
      rw [lanes_apply]
      show fx (at3 _ (2304 + 128 * g + n % 128) (cOf L + (c + (x 0).val) % 256)) = fx (at3 _ (2304 + (128 * g + n)) (cOf L + (c + (x 0).val)))
      rw [Nat.mod_eq_of_lt (by omega : n < 128), Nat.mod_eq_of_lt (by omega : c + (x 0).val < 256), Nat.add_assoc]
    have hr : base x + BitVec.ofNat 32 n = BitVec.ofNat 32 (2304 + (128 * g + n)) := by
      subst hb; rw [← BitVec.ofNat_add, Nat.add_assoc]
    show (Scalar.select (FloatOps.cmpf .olt (lanes (chunk fx L g) n c x) ((fold (chunk fx L g) c base n s).1 x)) (lanes (chunk fx L g) n c x) ((fold (chunk fx L g) c base n s).1 x),
      Scalar.select (FloatOps.cmpf .olt (lanes (chunk fx L g) n c x) ((fold (chunk fx L g) c base n s).1 x)) (base x + BitVec.ofNat 32 n) ((fold (chunk fx L g) c base n s).2 x)) = _
    rw [hv, hr, show (fold (chunk fx L g) c base n s).1 x = (cell (column fx L (c + (x 0).val)) (128 * g + n)).1 from congrArg Prod.fst ih,
      show (fold (chunk fx L g) c base n s).2 x = (cell (column fx L (c + (x 0).val)) (128 * g + n)).2 from congrArg Prod.snd ih]
    rfl

/-! ## The sixteen lane groups of a 256-lane row -/

/-- Sixteen lanes of the two rows, from lane `c` on. -/
def grp (fm : S256.Idx → F .f32) (fi : S256.Idx → BitVec 32) (c : ℕ) : FI F := (fun x => fm (at1 (c + (x 0).val)), fun x => fi (at1 (c + (x 0).val)))

/-- A load of sixteen entries from `c` on reads entry `c + x` into lane `x`. -/
theorem load16 {α : Type} (f : S256.Idx → α) (c : ℕ) (h : ∀ a, (![c] : Fin 1 → ℕ) a + S16.size a ≤ S256.size a) (x : S16.Idx) :
    f ((Rect.unit (s := S256) ![c] S16.size h).toLoadRect.idx x) = f (at1 (c + (x 0).val)) := by
  have h0 : c + 16 ≤ 256 := h 0
  have hx : (x 0).val < 16 := (x 0).isLt
  congr 1; funext a; apply Fin.ext
  rw [LoadRect.idx_apply]
  match a with
  | 0 => show c + 1 * (x 0).val = (c + (x 0).val) % 256; rw [Nat.mod_eq_of_lt (by omega)]; omega

/-- A load of sixteen lanes of the minima, and of their rows. -/
theorem load_m (fm : S256.Idx → F .f32) (c : ℕ) (h) (hs : S16.ShapeCasts S16) :
    shapeCast (s := S16) S16 (mV.view.readAt (Elt F) (Rect.unit (s := S256) ![c] S16.size h).toLoadRect fm) hs = fun x => fm (at1 (c + (x 0).val)) := by
  rw [shapeCast_self]; funext x; exact load16 fm c h x

/-- The same for the rows. -/
theorem load_i (fi : S256.Idx → BitVec 32) (c : ℕ) (h) (hs : S16.ShapeCasts S16) :
    shapeCast (s := S16) S16 (mI.view.readAt (Elt F) (Rect.unit (s := S256) ![c] S16.size h).toLoadRect fi) hs = fun x => fi (at1 (c + (x 0).val)) := by
  rw [shapeCast_self]; funext x; exact load16 fi c h x

/-- Lane `x` of the sixteen entries from `c` on is entry `c + x`. -/
theorem emb16 (c : ℕ) (h : ∀ a, (![c] : Fin 1 → ℕ) a + S16.size a ≤ S256.size a) (x : S16.Idx) :
    (Rect.unit (s := S256) ![c] S16.size h).emb x = at1 (c + (x 0).val) := by
  have h0 : c + 16 ≤ 256 := h 0
  have hx : (x 0).val < 16 := (x 0).isLt
  funext a; apply Fin.ext
  match a with
  | 0 => show c + 1 * (x 0).val = (c + (x 0).val) % 256; rw [Nat.mod_eq_of_lt (by omega)]; omega

/-- An entry from `c` to `c + 15` is one of the sixteen from `c` on. -/
theorem mem16 (c : ℕ) (h : ∀ a, (![c] : Fin 1 → ℕ) a + S16.size a ≤ S256.size a) (y : S256.Idx) (hy : c ≤ (y 0).val) (hy' : (y 0).val < c + 16) :
    y ∈ (Rect.unit (s := S256) ![c] S16.size h).set := by
  refine Rect.mem_set_unit.2 fun a => ?_
  match a with
  | 0 => exact ⟨hy, hy'⟩

/-- Every entry of a 256-lane row is in one of its sixteen groups. -/
theorem row_cover (y : S256.Idx) : ∃ j : Fin 16, 16 * j.val ≤ (y 0).val ∧ (y 0).val < 16 * j.val + 16 :=
  ⟨⟨(y 0).val / 16, by have : (y 0).val < 256 := (y 0).isLt; omega⟩, by show 16 * ((y 0).val / 16) ≤ _; omega, by show _ < 16 * ((y 0).val / 16) + 16; omega⟩

/-- A row of minima stored in sixteen groups, each agreeing with `G`, holds `G`. -/
theorem writes_m (f G : S256.Idx → F .f32) (v0 v1 v2 v3 v4 v5 v6 v7 v8 v9 v10 v11 v12 v13 v14 v15 : S16.Idx → Elt F .f32)
    (i0 : ∀ a, (![0] : Fin 1 → ℕ) a + S16.size a ≤ S256.size a)
    (i1 : ∀ a, (![16] : Fin 1 → ℕ) a + S16.size a ≤ S256.size a)
    (i2 : ∀ a, (![32] : Fin 1 → ℕ) a + S16.size a ≤ S256.size a)
    (i3 : ∀ a, (![48] : Fin 1 → ℕ) a + S16.size a ≤ S256.size a)
    (i4 : ∀ a, (![64] : Fin 1 → ℕ) a + S16.size a ≤ S256.size a)
    (i5 : ∀ a, (![80] : Fin 1 → ℕ) a + S16.size a ≤ S256.size a)
    (i6 : ∀ a, (![96] : Fin 1 → ℕ) a + S16.size a ≤ S256.size a)
    (i7 : ∀ a, (![112] : Fin 1 → ℕ) a + S16.size a ≤ S256.size a)
    (i8 : ∀ a, (![128] : Fin 1 → ℕ) a + S16.size a ≤ S256.size a)
    (i9 : ∀ a, (![144] : Fin 1 → ℕ) a + S16.size a ≤ S256.size a)
    (i10 : ∀ a, (![160] : Fin 1 → ℕ) a + S16.size a ≤ S256.size a)
    (i11 : ∀ a, (![176] : Fin 1 → ℕ) a + S16.size a ≤ S256.size a)
    (i12 : ∀ a, (![192] : Fin 1 → ℕ) a + S16.size a ≤ S256.size a)
    (i13 : ∀ a, (![208] : Fin 1 → ℕ) a + S16.size a ≤ S256.size a)
    (i14 : ∀ a, (![224] : Fin 1 → ℕ) a + S16.size a ≤ S256.size a)
    (i15 : ∀ a, (![240] : Fin 1 → ℕ) a + S16.size a ≤ S256.size a)
    (h0 : ∀ x : S16.Idx, v0 x = G (at1 (0 + (x 0).val)))
    (h1 : ∀ x : S16.Idx, v1 x = G (at1 (16 + (x 0).val)))
    (h2 : ∀ x : S16.Idx, v2 x = G (at1 (32 + (x 0).val)))
    (h3 : ∀ x : S16.Idx, v3 x = G (at1 (48 + (x 0).val)))
    (h4 : ∀ x : S16.Idx, v4 x = G (at1 (64 + (x 0).val)))
    (h5 : ∀ x : S16.Idx, v5 x = G (at1 (80 + (x 0).val)))
    (h6 : ∀ x : S16.Idx, v6 x = G (at1 (96 + (x 0).val)))
    (h7 : ∀ x : S16.Idx, v7 x = G (at1 (112 + (x 0).val)))
    (h8 : ∀ x : S16.Idx, v8 x = G (at1 (128 + (x 0).val)))
    (h9 : ∀ x : S16.Idx, v9 x = G (at1 (144 + (x 0).val)))
    (h10 : ∀ x : S16.Idx, v10 x = G (at1 (160 + (x 0).val)))
    (h11 : ∀ x : S16.Idx, v11 x = G (at1 (176 + (x 0).val)))
    (h12 : ∀ x : S16.Idx, v12 x = G (at1 (192 + (x 0).val)))
    (h13 : ∀ x : S16.Idx, v13 x = G (at1 (208 + (x 0).val)))
    (h14 : ∀ x : S16.Idx, v14 x = G (at1 (224 + (x 0).val)))
    (h15 : ∀ x : S16.Idx, v15 x = G (at1 (240 + (x 0).val))) :
    mV.view.writes (Elt F) f
      [⟨Rect.unit (s := S256) ![240] S16.size i15, v15⟩,
        ⟨Rect.unit (s := S256) ![224] S16.size i14, v14⟩,
        ⟨Rect.unit (s := S256) ![208] S16.size i13, v13⟩,
        ⟨Rect.unit (s := S256) ![192] S16.size i12, v12⟩,
        ⟨Rect.unit (s := S256) ![176] S16.size i11, v11⟩,
        ⟨Rect.unit (s := S256) ![160] S16.size i10, v10⟩,
        ⟨Rect.unit (s := S256) ![144] S16.size i9, v9⟩,
        ⟨Rect.unit (s := S256) ![128] S16.size i8, v8⟩,
        ⟨Rect.unit (s := S256) ![112] S16.size i7, v7⟩,
        ⟨Rect.unit (s := S256) ![96] S16.size i6, v6⟩,
        ⟨Rect.unit (s := S256) ![80] S16.size i5, v5⟩,
        ⟨Rect.unit (s := S256) ![64] S16.size i4, v4⟩,
        ⟨Rect.unit (s := S256) ![48] S16.size i3, v3⟩,
        ⟨Rect.unit (s := S256) ![32] S16.size i2, v2⟩,
        ⟨Rect.unit (s := S256) ![16] S16.size i1, v1⟩,
        ⟨Rect.unit (s := S256) ![0] S16.size i0, v0⟩] = G := by
  funext y
  refine View.read_writes_apply_of_pieces (Val := Elt F) mV.view f G _ (List.forall_mem_cons.2
    ⟨fun x => (h15 x).trans (congrArg G (emb16 _ i15 x).symm), List.forall_mem_cons.2
    ⟨fun x => (h14 x).trans (congrArg G (emb16 _ i14 x).symm), List.forall_mem_cons.2
    ⟨fun x => (h13 x).trans (congrArg G (emb16 _ i13 x).symm), List.forall_mem_cons.2
    ⟨fun x => (h12 x).trans (congrArg G (emb16 _ i12 x).symm), List.forall_mem_cons.2
    ⟨fun x => (h11 x).trans (congrArg G (emb16 _ i11 x).symm), List.forall_mem_cons.2
    ⟨fun x => (h10 x).trans (congrArg G (emb16 _ i10 x).symm), List.forall_mem_cons.2
    ⟨fun x => (h9 x).trans (congrArg G (emb16 _ i9 x).symm), List.forall_mem_cons.2
    ⟨fun x => (h8 x).trans (congrArg G (emb16 _ i8 x).symm), List.forall_mem_cons.2
    ⟨fun x => (h7 x).trans (congrArg G (emb16 _ i7 x).symm), List.forall_mem_cons.2
    ⟨fun x => (h6 x).trans (congrArg G (emb16 _ i6 x).symm), List.forall_mem_cons.2
    ⟨fun x => (h5 x).trans (congrArg G (emb16 _ i5 x).symm), List.forall_mem_cons.2
    ⟨fun x => (h4 x).trans (congrArg G (emb16 _ i4 x).symm), List.forall_mem_cons.2
    ⟨fun x => (h3 x).trans (congrArg G (emb16 _ i3 x).symm), List.forall_mem_cons.2
    ⟨fun x => (h2 x).trans (congrArg G (emb16 _ i2 x).symm), List.forall_mem_cons.2
    ⟨fun x => (h1 x).trans (congrArg G (emb16 _ i1 x).symm), List.forall_mem_cons.2
    ⟨fun x => (h0 x).trans (congrArg G (emb16 _ i0 x).symm), List.forall_mem_nil _⟩⟩⟩⟩⟩⟩⟩⟩⟩⟩⟩⟩⟩⟩⟩⟩) y ?_
  obtain ⟨j, l, u⟩ := row_cover y
  fin_cases j
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem16 0 i0 y l u⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem16 16 i1 y l u⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem16 32 i2 y l u⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem16 48 i3 y l u⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem16 64 i4 y l u⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem16 80 i5 y l u⟩
  · exact ⟨_, List.Mem.tail _ (List.Mem.tail _ (List.Mem.tail _ (List.Mem.tail _ (List.Mem.tail _ (List.Mem.tail _ (List.Mem.tail _ (List.Mem.tail _ (List.Mem.tail _ (List.Mem.head _))))))))), mem16 96 i6 y l u⟩
  · exact ⟨_, List.Mem.tail _ (List.Mem.tail _ (List.Mem.tail _ (List.Mem.tail _ (List.Mem.tail _ (List.Mem.tail _ (List.Mem.tail _ (List.Mem.tail _ (List.Mem.head _)))))))), mem16 112 i7 y l u⟩
  · exact ⟨_, List.Mem.tail _ (List.Mem.tail _ (List.Mem.tail _ (List.Mem.tail _ (List.Mem.tail _ (List.Mem.tail _ (List.Mem.tail _ (List.Mem.head _))))))), mem16 128 i8 y l u⟩
  · exact ⟨_, List.Mem.tail _ (List.Mem.tail _ (List.Mem.tail _ (List.Mem.tail _ (List.Mem.tail _ (List.Mem.tail _ (List.Mem.head _)))))), mem16 144 i9 y l u⟩
  · exact ⟨_, List.Mem.tail _ (List.Mem.tail _ (List.Mem.tail _ (List.Mem.tail _ (List.Mem.tail _ (List.Mem.head _))))), mem16 160 i10 y l u⟩
  · exact ⟨_, List.Mem.tail _ (List.Mem.tail _ (List.Mem.tail _ (List.Mem.tail _ (List.Mem.head _)))), mem16 176 i11 y l u⟩
  · exact ⟨_, List.Mem.tail _ (List.Mem.tail _ (List.Mem.tail _ (List.Mem.head _))), mem16 192 i12 y l u⟩
  · exact ⟨_, List.Mem.tail _ (List.Mem.tail _ (List.Mem.head _)), mem16 208 i13 y l u⟩
  · exact ⟨_, List.Mem.tail _ (List.Mem.head _), mem16 224 i14 y l u⟩
  · exact ⟨_, List.Mem.head _, mem16 240 i15 y l u⟩

/-- The same of the row of indices. -/
theorem writes_i (f G : S256.Idx → BitVec 32) (v0 v1 v2 v3 v4 v5 v6 v7 v8 v9 v10 v11 v12 v13 v14 v15 : S16.Idx → Elt F .i32)
    (i0 : ∀ a, (![0] : Fin 1 → ℕ) a + S16.size a ≤ S256.size a)
    (i1 : ∀ a, (![16] : Fin 1 → ℕ) a + S16.size a ≤ S256.size a)
    (i2 : ∀ a, (![32] : Fin 1 → ℕ) a + S16.size a ≤ S256.size a)
    (i3 : ∀ a, (![48] : Fin 1 → ℕ) a + S16.size a ≤ S256.size a)
    (i4 : ∀ a, (![64] : Fin 1 → ℕ) a + S16.size a ≤ S256.size a)
    (i5 : ∀ a, (![80] : Fin 1 → ℕ) a + S16.size a ≤ S256.size a)
    (i6 : ∀ a, (![96] : Fin 1 → ℕ) a + S16.size a ≤ S256.size a)
    (i7 : ∀ a, (![112] : Fin 1 → ℕ) a + S16.size a ≤ S256.size a)
    (i8 : ∀ a, (![128] : Fin 1 → ℕ) a + S16.size a ≤ S256.size a)
    (i9 : ∀ a, (![144] : Fin 1 → ℕ) a + S16.size a ≤ S256.size a)
    (i10 : ∀ a, (![160] : Fin 1 → ℕ) a + S16.size a ≤ S256.size a)
    (i11 : ∀ a, (![176] : Fin 1 → ℕ) a + S16.size a ≤ S256.size a)
    (i12 : ∀ a, (![192] : Fin 1 → ℕ) a + S16.size a ≤ S256.size a)
    (i13 : ∀ a, (![208] : Fin 1 → ℕ) a + S16.size a ≤ S256.size a)
    (i14 : ∀ a, (![224] : Fin 1 → ℕ) a + S16.size a ≤ S256.size a)
    (i15 : ∀ a, (![240] : Fin 1 → ℕ) a + S16.size a ≤ S256.size a)
    (h0 : ∀ x : S16.Idx, v0 x = G (at1 (0 + (x 0).val)))
    (h1 : ∀ x : S16.Idx, v1 x = G (at1 (16 + (x 0).val)))
    (h2 : ∀ x : S16.Idx, v2 x = G (at1 (32 + (x 0).val)))
    (h3 : ∀ x : S16.Idx, v3 x = G (at1 (48 + (x 0).val)))
    (h4 : ∀ x : S16.Idx, v4 x = G (at1 (64 + (x 0).val)))
    (h5 : ∀ x : S16.Idx, v5 x = G (at1 (80 + (x 0).val)))
    (h6 : ∀ x : S16.Idx, v6 x = G (at1 (96 + (x 0).val)))
    (h7 : ∀ x : S16.Idx, v7 x = G (at1 (112 + (x 0).val)))
    (h8 : ∀ x : S16.Idx, v8 x = G (at1 (128 + (x 0).val)))
    (h9 : ∀ x : S16.Idx, v9 x = G (at1 (144 + (x 0).val)))
    (h10 : ∀ x : S16.Idx, v10 x = G (at1 (160 + (x 0).val)))
    (h11 : ∀ x : S16.Idx, v11 x = G (at1 (176 + (x 0).val)))
    (h12 : ∀ x : S16.Idx, v12 x = G (at1 (192 + (x 0).val)))
    (h13 : ∀ x : S16.Idx, v13 x = G (at1 (208 + (x 0).val)))
    (h14 : ∀ x : S16.Idx, v14 x = G (at1 (224 + (x 0).val)))
    (h15 : ∀ x : S16.Idx, v15 x = G (at1 (240 + (x 0).val))) :
    mI.view.writes (Elt F) f
      [⟨Rect.unit (s := S256) ![240] S16.size i15, v15⟩,
        ⟨Rect.unit (s := S256) ![224] S16.size i14, v14⟩,
        ⟨Rect.unit (s := S256) ![208] S16.size i13, v13⟩,
        ⟨Rect.unit (s := S256) ![192] S16.size i12, v12⟩,
        ⟨Rect.unit (s := S256) ![176] S16.size i11, v11⟩,
        ⟨Rect.unit (s := S256) ![160] S16.size i10, v10⟩,
        ⟨Rect.unit (s := S256) ![144] S16.size i9, v9⟩,
        ⟨Rect.unit (s := S256) ![128] S16.size i8, v8⟩,
        ⟨Rect.unit (s := S256) ![112] S16.size i7, v7⟩,
        ⟨Rect.unit (s := S256) ![96] S16.size i6, v6⟩,
        ⟨Rect.unit (s := S256) ![80] S16.size i5, v5⟩,
        ⟨Rect.unit (s := S256) ![64] S16.size i4, v4⟩,
        ⟨Rect.unit (s := S256) ![48] S16.size i3, v3⟩,
        ⟨Rect.unit (s := S256) ![32] S16.size i2, v2⟩,
        ⟨Rect.unit (s := S256) ![16] S16.size i1, v1⟩,
        ⟨Rect.unit (s := S256) ![0] S16.size i0, v0⟩] = G := by
  funext y
  refine View.read_writes_apply_of_pieces (Val := Elt F) mI.view f G _ (List.forall_mem_cons.2
    ⟨fun x => (h15 x).trans (congrArg G (emb16 _ i15 x).symm), List.forall_mem_cons.2
    ⟨fun x => (h14 x).trans (congrArg G (emb16 _ i14 x).symm), List.forall_mem_cons.2
    ⟨fun x => (h13 x).trans (congrArg G (emb16 _ i13 x).symm), List.forall_mem_cons.2
    ⟨fun x => (h12 x).trans (congrArg G (emb16 _ i12 x).symm), List.forall_mem_cons.2
    ⟨fun x => (h11 x).trans (congrArg G (emb16 _ i11 x).symm), List.forall_mem_cons.2
    ⟨fun x => (h10 x).trans (congrArg G (emb16 _ i10 x).symm), List.forall_mem_cons.2
    ⟨fun x => (h9 x).trans (congrArg G (emb16 _ i9 x).symm), List.forall_mem_cons.2
    ⟨fun x => (h8 x).trans (congrArg G (emb16 _ i8 x).symm), List.forall_mem_cons.2
    ⟨fun x => (h7 x).trans (congrArg G (emb16 _ i7 x).symm), List.forall_mem_cons.2
    ⟨fun x => (h6 x).trans (congrArg G (emb16 _ i6 x).symm), List.forall_mem_cons.2
    ⟨fun x => (h5 x).trans (congrArg G (emb16 _ i5 x).symm), List.forall_mem_cons.2
    ⟨fun x => (h4 x).trans (congrArg G (emb16 _ i4 x).symm), List.forall_mem_cons.2
    ⟨fun x => (h3 x).trans (congrArg G (emb16 _ i3 x).symm), List.forall_mem_cons.2
    ⟨fun x => (h2 x).trans (congrArg G (emb16 _ i2 x).symm), List.forall_mem_cons.2
    ⟨fun x => (h1 x).trans (congrArg G (emb16 _ i1 x).symm), List.forall_mem_cons.2
    ⟨fun x => (h0 x).trans (congrArg G (emb16 _ i0 x).symm), List.forall_mem_nil _⟩⟩⟩⟩⟩⟩⟩⟩⟩⟩⟩⟩⟩⟩⟩⟩) y ?_
  obtain ⟨j, l, u⟩ := row_cover y
  fin_cases j
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem16 0 i0 y l u⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem16 16 i1 y l u⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem16 32 i2 y l u⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem16 48 i3 y l u⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem16 64 i4 y l u⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem16 80 i5 y l u⟩
  · exact ⟨_, List.Mem.tail _ (List.Mem.tail _ (List.Mem.tail _ (List.Mem.tail _ (List.Mem.tail _ (List.Mem.tail _ (List.Mem.tail _ (List.Mem.tail _ (List.Mem.tail _ (List.Mem.head _))))))))), mem16 96 i6 y l u⟩
  · exact ⟨_, List.Mem.tail _ (List.Mem.tail _ (List.Mem.tail _ (List.Mem.tail _ (List.Mem.tail _ (List.Mem.tail _ (List.Mem.tail _ (List.Mem.tail _ (List.Mem.head _)))))))), mem16 112 i7 y l u⟩
  · exact ⟨_, List.Mem.tail _ (List.Mem.tail _ (List.Mem.tail _ (List.Mem.tail _ (List.Mem.tail _ (List.Mem.tail _ (List.Mem.tail _ (List.Mem.head _))))))), mem16 128 i8 y l u⟩
  · exact ⟨_, List.Mem.tail _ (List.Mem.tail _ (List.Mem.tail _ (List.Mem.tail _ (List.Mem.tail _ (List.Mem.tail _ (List.Mem.head _)))))), mem16 144 i9 y l u⟩
  · exact ⟨_, List.Mem.tail _ (List.Mem.tail _ (List.Mem.tail _ (List.Mem.tail _ (List.Mem.tail _ (List.Mem.head _))))), mem16 160 i10 y l u⟩
  · exact ⟨_, List.Mem.tail _ (List.Mem.tail _ (List.Mem.tail _ (List.Mem.tail _ (List.Mem.head _)))), mem16 176 i11 y l u⟩
  · exact ⟨_, List.Mem.tail _ (List.Mem.tail _ (List.Mem.tail _ (List.Mem.head _))), mem16 192 i12 y l u⟩
  · exact ⟨_, List.Mem.tail _ (List.Mem.tail _ (List.Mem.head _)), mem16 208 i13 y l u⟩
  · exact ⟨_, List.Mem.tail _ (List.Mem.head _), mem16 224 i14 y l u⟩
  · exact ⟨_, List.Mem.head _, mem16 240 i15 y l u⟩

end Cert.Argmin

end
-- ==== Proof.Scan2.lean ====
/-
  The inner loop over the rows of the first staged block, columns 0 to 127.
-/
module

public import proofs.«01_k».proof.Proof.Lanes

@[expose] public section

set_option maxRecDepth 16384

noncomputable section

namespace Cert.Argmin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The row numbers one row on. -/
theorem rows2_1 (base : IVec S16 32) (k : ℕ) :
    (k0_pay1 k0_pay694 fun x => base x + BitVec.ofNat 32 (4 * k)) = fun x => base x + BitVec.ofNat 32 (4 * k + 1) :=
  rows_add base k 1

/-- The row numbers two rows on. -/
theorem rows2_2 (base : IVec S16 32) (k : ℕ) :
    (k0_pay2 k0_pay695 fun x => base x + BitVec.ofNat 32 (4 * k)) = fun x => base x + BitVec.ofNat 32 (4 * k + 2) :=
  rows_add base k 2

/-- The row numbers three rows on. -/
theorem rows2_3 (base : IVec S16 32) (k : ℕ) :
    (k0_pay3 k0_pay696 fun x => base x + BitVec.ofNat 32 (4 * k)) = fun x => base x + BitVec.ofNat 32 (4 * k + 3) :=
  rows_add base k 3

/-- The row numbers four rows on. -/
theorem rows2_4 (base : IVec S16 32) (k : ℕ) :
    (k0_pay530 k0_pay697 fun x => base x + BitVec.ofNat 32 (4 * k)) = fun x => base x + BitVec.ofNat 32 (4 * (k + 1)) :=
  rows_add base k 4

/-- Four rows of the staged block, columns 0 to 127: the loop carries the scan of four rows more. -/
theorem t2_step (d : Dev nD) (L : grid0.Coords) (fb : Buf (Elt F) ((thr d L).loc cc0_scratch0)) (base : IVec S16 32) (s0 s1 s2 s3 s4 s5 s6 s7 : FI F)
    (v169 : BitVec 32) (v179 : FVec F S16 .f32) (v181 : FVec F S16 .f32) (v183 : FVec F S16 .f32) (v185 : FVec F S16 .f32) (v187 : FVec F S16 .f32) (v189 : FVec F S16 .f32) (v191 : FVec F S16 .f32) (v193 : FVec F S16 .f32) (v195 : IVec S16 32) (v197 : IVec S16 32) (v199 : IVec S16 32) (v201 : IVec S16 32) (v203 : IVec S16 32)
    (k : Fin k0_t2_loop.trips) :
    (b0.view.loc (thr d L) ↦{fullShare} fb : sProp 𝕄)
      ⊢ wp frame (wpE (defs₀ (F := F)) 𝒱₀ (thr d L) none) Set.univ
          (k0_t2_body (F := F) L xW (Memref.isWhole_whole _) vW (Memref.isWhole_whole _) iW (Memref.isWhole_whole _) b0 (Memref.isWhole_whole _) b1 (Memref.isWhole_whole _) mV (Memref.isWhole_whole _) mI (Memref.isWhole_whole _) cc0_scratch4 cc0_scratch5 cc0_scoped0 cc0_scoped1
            k0_pay694 k0_pay695 k0_pay696 k0_pay697 v169 v179 v181 v183 v185 v187 v189 v191 v193 v195 v197 v199 v201 v203 k (carry fb 0 base s0 s1 s2 s3 s4 s5 s6 s7 k.val))
          fun acc => iprop(⌜acc = carry fb 0 base s0 s1 s2 s3 s4 s5 s6 s7 (k.val + 1)⌝ ∗ b0.view.loc (thr d L) ↦{fullShare} fb) := by
  unfold k0_t2_body carry
  iintro H
  sl_exec
  sl_step
  sl_unfold_run_names
  isplitr
  · ipureintro
    rw [rows2_1, rows2_2, rows2_3, rows2_4]
    rw [readAt_b0 fb (k0_off4 k 0#32) _ _ _ (k0_off4_eq k 0), readAt_b0 fb (k0_off5 k 0#32) _ _ _ (k0_off5_eq k 0),
      readAt_b0 fb (k0_off6 k 0#32) _ _ _ (k0_off6_eq k 0), readAt_b0 fb (k0_off7 k 0#32) _ _ _ (k0_off7_eq k 0),
      readAt_b0 fb (k0_off8 k 0#32) _ _ _ (k0_off8_eq k 0), readAt_b0 fb (k0_off9 k 0#32) _ _ _ (k0_off9_eq k 0),
      readAt_b0 fb (k0_off10 k 0#32) _ _ _ (k0_off10_eq k 0), readAt_b0 fb (k0_off11 k 0#32) _ _ _ (k0_off11_eq k 0)]
    rw [readAt_b0 fb (k0_off4 k 1#32) _ _ _ (k0_off4_eq k 1), readAt_b0 fb (k0_off5 k 1#32) _ _ _ (k0_off5_eq k 1),
      readAt_b0 fb (k0_off6 k 1#32) _ _ _ (k0_off6_eq k 1), readAt_b0 fb (k0_off7 k 1#32) _ _ _ (k0_off7_eq k 1),
      readAt_b0 fb (k0_off8 k 1#32) _ _ _ (k0_off8_eq k 1), readAt_b0 fb (k0_off9 k 1#32) _ _ _ (k0_off9_eq k 1),
      readAt_b0 fb (k0_off10 k 1#32) _ _ _ (k0_off10_eq k 1), readAt_b0 fb (k0_off11 k 1#32) _ _ _ (k0_off11_eq k 1)]
    rw [readAt_b0 fb (k0_off4 k 2#32) _ _ _ (k0_off4_eq k 2), readAt_b0 fb (k0_off5 k 2#32) _ _ _ (k0_off5_eq k 2),
      readAt_b0 fb (k0_off6 k 2#32) _ _ _ (k0_off6_eq k 2), readAt_b0 fb (k0_off7 k 2#32) _ _ _ (k0_off7_eq k 2),
      readAt_b0 fb (k0_off8 k 2#32) _ _ _ (k0_off8_eq k 2), readAt_b0 fb (k0_off9 k 2#32) _ _ _ (k0_off9_eq k 2),
      readAt_b0 fb (k0_off10 k 2#32) _ _ _ (k0_off10_eq k 2), readAt_b0 fb (k0_off11 k 2#32) _ _ _ (k0_off11_eq k 2)]
    rw [readAt_b0 fb (k0_off4 k 3#32) _ _ _ (k0_off4_eq k 3), readAt_b0 fb (k0_off5 k 3#32) _ _ _ (k0_off5_eq k 3),
      readAt_b0 fb (k0_off6 k 3#32) _ _ _ (k0_off6_eq k 3), readAt_b0 fb (k0_off7 k 3#32) _ _ _ (k0_off7_eq k 3),
      readAt_b0 fb (k0_off8 k 3#32) _ _ _ (k0_off8_eq k 3), readAt_b0 fb (k0_off9 k 3#32) _ _ _ (k0_off9_eq k 3),
      readAt_b0 fb (k0_off10 k 3#32) _ _ _ (k0_off10_eq k 3), readAt_b0 fb (k0_off11 k 3#32) _ _ _ (k0_off11_eq k 3)]
    rfl
  · iexact H

end Cert.Argmin

end
-- ==== Proof.Scan3.lean ====
/-
  The inner loop over the rows of the first staged block, columns 128 to 255.
-/
module

public import proofs.«01_k».proof.Proof.Lanes

@[expose] public section

set_option maxRecDepth 16384

noncomputable section

namespace Cert.Argmin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The row numbers one row on. -/
theorem rows3_1 (base : IVec S16 32) (k : ℕ) :
    (k0_pay128 k0_pay694 fun x => base x + BitVec.ofNat 32 (4 * k)) = fun x => base x + BitVec.ofNat 32 (4 * k + 1) :=
  rows_add base k 1

/-- The row numbers two rows on. -/
theorem rows3_2 (base : IVec S16 32) (k : ℕ) :
    (k0_pay129 k0_pay695 fun x => base x + BitVec.ofNat 32 (4 * k)) = fun x => base x + BitVec.ofNat 32 (4 * k + 2) :=
  rows_add base k 2

/-- The row numbers three rows on. -/
theorem rows3_3 (base : IVec S16 32) (k : ℕ) :
    (k0_pay130 k0_pay696 fun x => base x + BitVec.ofNat 32 (4 * k)) = fun x => base x + BitVec.ofNat 32 (4 * k + 3) :=
  rows_add base k 3

/-- The row numbers four rows on. -/
theorem rows3_4 (base : IVec S16 32) (k : ℕ) :
    (k0_pay568 k0_pay697 fun x => base x + BitVec.ofNat 32 (4 * k)) = fun x => base x + BitVec.ofNat 32 (4 * (k + 1)) :=
  rows_add base k 4

/-- Four rows of the staged block, columns 128 to 255: the loop carries the scan of four rows more. -/
theorem t3_step (d : Dev nD) (L : grid0.Coords) (fb : Buf (Elt F) ((thr d L).loc cc0_scratch0)) (base : IVec S16 32) (s0 s1 s2 s3 s4 s5 s6 s7 : FI F)
    (v169 : BitVec 32) (v264 : FVec F S16 .f32) (v266 : FVec F S16 .f32) (v268 : FVec F S16 .f32) (v270 : FVec F S16 .f32) (v272 : FVec F S16 .f32) (v274 : FVec F S16 .f32) (v276 : FVec F S16 .f32)
    (k : Fin k0_t3_loop.trips) :
    (b0.view.loc (thr d L) ↦{fullShare} fb : sProp 𝕄)
      ⊢ wp frame (wpE (defs₀ (F := F)) 𝒱₀ (thr d L) none) Set.univ
          (k0_t3_body (F := F) L xW (Memref.isWhole_whole _) vW (Memref.isWhole_whole _) iW (Memref.isWhole_whole _) b0 (Memref.isWhole_whole _) b1 (Memref.isWhole_whole _) mV (Memref.isWhole_whole _) mI (Memref.isWhole_whole _) cc0_scratch4 cc0_scratch5 cc0_scoped0 cc0_scoped1
            k0_pay694 k0_pay695 k0_pay696 k0_pay697 v169 v264 v266 v268 v270 v272 v274 v276 k (carry fb 128 base s0 s1 s2 s3 s4 s5 s6 s7 k.val))
          fun acc => iprop(⌜acc = carry fb 128 base s0 s1 s2 s3 s4 s5 s6 s7 (k.val + 1)⌝ ∗ b0.view.loc (thr d L) ↦{fullShare} fb) := by
  unfold k0_t3_body carry
  iintro H
  sl_exec
  sl_step
  sl_unfold_run_names
  isplitr
  · ipureintro
    rw [rows3_1, rows3_2, rows3_3, rows3_4]
    rw [readAt_b0 fb (k0_off12 k 0#32) _ _ _ (k0_off12_eq k 0), readAt_b0 fb (k0_off13 k 0#32) _ _ _ (k0_off13_eq k 0),
      readAt_b0 fb (k0_off14 k 0#32) _ _ _ (k0_off14_eq k 0), readAt_b0 fb (k0_off15 k 0#32) _ _ _ (k0_off15_eq k 0),
      readAt_b0 fb (k0_off16 k 0#32) _ _ _ (k0_off16_eq k 0), readAt_b0 fb (k0_off17 k 0#32) _ _ _ (k0_off17_eq k 0),
      readAt_b0 fb (k0_off18 k 0#32) _ _ _ (k0_off18_eq k 0), readAt_b0 fb (k0_off19 k 0#32) _ _ _ (k0_off19_eq k 0)]
    rw [readAt_b0 fb (k0_off12 k 1#32) _ _ _ (k0_off12_eq k 1), readAt_b0 fb (k0_off13 k 1#32) _ _ _ (k0_off13_eq k 1),
      readAt_b0 fb (k0_off14 k 1#32) _ _ _ (k0_off14_eq k 1), readAt_b0 fb (k0_off15 k 1#32) _ _ _ (k0_off15_eq k 1),
      readAt_b0 fb (k0_off16 k 1#32) _ _ _ (k0_off16_eq k 1), readAt_b0 fb (k0_off17 k 1#32) _ _ _ (k0_off17_eq k 1),
      readAt_b0 fb (k0_off18 k 1#32) _ _ _ (k0_off18_eq k 1), readAt_b0 fb (k0_off19 k 1#32) _ _ _ (k0_off19_eq k 1)]
    rw [readAt_b0 fb (k0_off12 k 2#32) _ _ _ (k0_off12_eq k 2), readAt_b0 fb (k0_off13 k 2#32) _ _ _ (k0_off13_eq k 2),
      readAt_b0 fb (k0_off14 k 2#32) _ _ _ (k0_off14_eq k 2), readAt_b0 fb (k0_off15 k 2#32) _ _ _ (k0_off15_eq k 2),
      readAt_b0 fb (k0_off16 k 2#32) _ _ _ (k0_off16_eq k 2), readAt_b0 fb (k0_off17 k 2#32) _ _ _ (k0_off17_eq k 2),
      readAt_b0 fb (k0_off18 k 2#32) _ _ _ (k0_off18_eq k 2), readAt_b0 fb (k0_off19 k 2#32) _ _ _ (k0_off19_eq k 2)]
    rw [readAt_b0 fb (k0_off12 k 3#32) _ _ _ (k0_off12_eq k 3), readAt_b0 fb (k0_off13 k 3#32) _ _ _ (k0_off13_eq k 3),
      readAt_b0 fb (k0_off14 k 3#32) _ _ _ (k0_off14_eq k 3), readAt_b0 fb (k0_off15 k 3#32) _ _ _ (k0_off15_eq k 3),
      readAt_b0 fb (k0_off16 k 3#32) _ _ _ (k0_off16_eq k 3), readAt_b0 fb (k0_off17 k 3#32) _ _ _ (k0_off17_eq k 3),
      readAt_b0 fb (k0_off18 k 3#32) _ _ _ (k0_off18_eq k 3), readAt_b0 fb (k0_off19 k 3#32) _ _ _ (k0_off19_eq k 3)]
    rfl
  · iexact H

end Cert.Argmin

end
-- ==== Proof.Scan4.lean ====
/-
  The inner loop over the rows of the second staged block, columns 0 to 127.
-/
module

public import proofs.«01_k».proof.Proof.Lanes

@[expose] public section

set_option maxRecDepth 16384

noncomputable section

namespace Cert.Argmin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The row numbers one row on. -/
theorem rows4_1 (base : IVec S16 32) (k : ℕ) :
    (k0_pay255 k0_pay694 fun x => base x + BitVec.ofNat 32 (4 * k)) = fun x => base x + BitVec.ofNat 32 (4 * k + 1) :=
  rows_add base k 1

/-- The row numbers two rows on. -/
theorem rows4_2 (base : IVec S16 32) (k : ℕ) :
    (k0_pay256 k0_pay695 fun x => base x + BitVec.ofNat 32 (4 * k)) = fun x => base x + BitVec.ofNat 32 (4 * k + 2) :=
  rows_add base k 2

/-- The row numbers three rows on. -/
theorem rows4_3 (base : IVec S16 32) (k : ℕ) :
    (k0_pay257 k0_pay696 fun x => base x + BitVec.ofNat 32 (4 * k)) = fun x => base x + BitVec.ofNat 32 (4 * k + 3) :=
  rows_add base k 3

/-- The row numbers four rows on. -/
theorem rows4_4 (base : IVec S16 32) (k : ℕ) :
    (k0_pay606 k0_pay697 fun x => base x + BitVec.ofNat 32 (4 * k)) = fun x => base x + BitVec.ofNat 32 (4 * (k + 1)) :=
  rows_add base k 4

/-- Four rows of the staged block, columns 0 to 127: the loop carries the scan of four rows more. -/
theorem t4_step (d : Dev nD) (L : grid0.Coords) (fb : Buf (Elt F) ((thr d L).loc cc0_scratch1)) (base : IVec S16 32) (s0 s1 s2 s3 s4 s5 s6 s7 : FI F)
    (v349 : BitVec 32) (v359 : FVec F S16 .f32) (v361 : FVec F S16 .f32) (v363 : FVec F S16 .f32) (v365 : FVec F S16 .f32) (v367 : FVec F S16 .f32) (v369 : FVec F S16 .f32) (v371 : FVec F S16 .f32) (v373 : FVec F S16 .f32) (v375 : IVec S16 32) (v377 : IVec S16 32) (v379 : IVec S16 32) (v381 : IVec S16 32) (v383 : IVec S16 32) (v385 : IVec S16 32)
    (k : Fin k0_t4_loop.trips) :
    (b1.view.loc (thr d L) ↦{fullShare} fb : sProp 𝕄)
      ⊢ wp frame (wpE (defs₀ (F := F)) 𝒱₀ (thr d L) none) Set.univ
          (k0_t4_body (F := F) L xW (Memref.isWhole_whole _) vW (Memref.isWhole_whole _) iW (Memref.isWhole_whole _) b0 (Memref.isWhole_whole _) b1 (Memref.isWhole_whole _) mV (Memref.isWhole_whole _) mI (Memref.isWhole_whole _) cc0_scratch4 cc0_scratch5 cc0_scoped0 cc0_scoped1
            k0_pay694 k0_pay695 k0_pay696 k0_pay697 v349 v359 v361 v363 v365 v367 v369 v371 v373 v375 v377 v379 v381 v383 v385 k (carry fb 0 base s0 s1 s2 s3 s4 s5 s6 s7 k.val))
          fun acc => iprop(⌜acc = carry fb 0 base s0 s1 s2 s3 s4 s5 s6 s7 (k.val + 1)⌝ ∗ b1.view.loc (thr d L) ↦{fullShare} fb) := by
  unfold k0_t4_body carry
  iintro H
  sl_exec
  sl_step
  sl_unfold_run_names
  isplitr
  · ipureintro
    rw [rows4_1, rows4_2, rows4_3, rows4_4]
    rw [readAt_b1 fb (k0_off21 k 0#32) _ _ _ (k0_off21_eq k 0), readAt_b1 fb (k0_off22 k 0#32) _ _ _ (k0_off22_eq k 0),
      readAt_b1 fb (k0_off23 k 0#32) _ _ _ (k0_off23_eq k 0), readAt_b1 fb (k0_off24 k 0#32) _ _ _ (k0_off24_eq k 0),
      readAt_b1 fb (k0_off25 k 0#32) _ _ _ (k0_off25_eq k 0), readAt_b1 fb (k0_off26 k 0#32) _ _ _ (k0_off26_eq k 0),
      readAt_b1 fb (k0_off27 k 0#32) _ _ _ (k0_off27_eq k 0), readAt_b1 fb (k0_off28 k 0#32) _ _ _ (k0_off28_eq k 0)]
    rw [readAt_b1 fb (k0_off21 k 1#32) _ _ _ (k0_off21_eq k 1), readAt_b1 fb (k0_off22 k 1#32) _ _ _ (k0_off22_eq k 1),
      readAt_b1 fb (k0_off23 k 1#32) _ _ _ (k0_off23_eq k 1), readAt_b1 fb (k0_off24 k 1#32) _ _ _ (k0_off24_eq k 1),
      readAt_b1 fb (k0_off25 k 1#32) _ _ _ (k0_off25_eq k 1), readAt_b1 fb (k0_off26 k 1#32) _ _ _ (k0_off26_eq k 1),
      readAt_b1 fb (k0_off27 k 1#32) _ _ _ (k0_off27_eq k 1), readAt_b1 fb (k0_off28 k 1#32) _ _ _ (k0_off28_eq k 1)]
    rw [readAt_b1 fb (k0_off21 k 2#32) _ _ _ (k0_off21_eq k 2), readAt_b1 fb (k0_off22 k 2#32) _ _ _ (k0_off22_eq k 2),
      readAt_b1 fb (k0_off23 k 2#32) _ _ _ (k0_off23_eq k 2), readAt_b1 fb (k0_off24 k 2#32) _ _ _ (k0_off24_eq k 2),
      readAt_b1 fb (k0_off25 k 2#32) _ _ _ (k0_off25_eq k 2), readAt_b1 fb (k0_off26 k 2#32) _ _ _ (k0_off26_eq k 2),
      readAt_b1 fb (k0_off27 k 2#32) _ _ _ (k0_off27_eq k 2), readAt_b1 fb (k0_off28 k 2#32) _ _ _ (k0_off28_eq k 2)]
    rw [readAt_b1 fb (k0_off21 k 3#32) _ _ _ (k0_off21_eq k 3), readAt_b1 fb (k0_off22 k 3#32) _ _ _ (k0_off22_eq k 3),
      readAt_b1 fb (k0_off23 k 3#32) _ _ _ (k0_off23_eq k 3), readAt_b1 fb (k0_off24 k 3#32) _ _ _ (k0_off24_eq k 3),
      readAt_b1 fb (k0_off25 k 3#32) _ _ _ (k0_off25_eq k 3), readAt_b1 fb (k0_off26 k 3#32) _ _ _ (k0_off26_eq k 3),
      readAt_b1 fb (k0_off27 k 3#32) _ _ _ (k0_off27_eq k 3), readAt_b1 fb (k0_off28 k 3#32) _ _ _ (k0_off28_eq k 3)]
    rfl
  · iexact H

end Cert.Argmin

end
-- ==== Proof.Scan5.lean ====
/-
  The inner loop over the rows of the second staged block, columns 128 to 255.
-/
module

public import proofs.«01_k».proof.Proof.Lanes

@[expose] public section

set_option maxRecDepth 16384

noncomputable section

namespace Cert.Argmin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The row numbers one row on. -/
theorem rows5_1 (base : IVec S16 32) (k : ℕ) :
    (k0_pay382 k0_pay694 fun x => base x + BitVec.ofNat 32 (4 * k)) = fun x => base x + BitVec.ofNat 32 (4 * k + 1) :=
  rows_add base k 1

/-- The row numbers two rows on. -/
theorem rows5_2 (base : IVec S16 32) (k : ℕ) :
    (k0_pay383 k0_pay695 fun x => base x + BitVec.ofNat 32 (4 * k)) = fun x => base x + BitVec.ofNat 32 (4 * k + 2) :=
  rows_add base k 2

/-- The row numbers three rows on. -/
theorem rows5_3 (base : IVec S16 32) (k : ℕ) :
    (k0_pay384 k0_pay696 fun x => base x + BitVec.ofNat 32 (4 * k)) = fun x => base x + BitVec.ofNat 32 (4 * k + 3) :=
  rows_add base k 3

/-- The row numbers four rows on. -/
theorem rows5_4 (base : IVec S16 32) (k : ℕ) :
    (k0_pay644 k0_pay697 fun x => base x + BitVec.ofNat 32 (4 * k)) = fun x => base x + BitVec.ofNat 32 (4 * (k + 1)) :=
  rows_add base k 4

/-- Four rows of the staged block, columns 128 to 255: the loop carries the scan of four rows more. -/
theorem t5_step (d : Dev nD) (L : grid0.Coords) (fb : Buf (Elt F) ((thr d L).loc cc0_scratch1)) (base : IVec S16 32) (s0 s1 s2 s3 s4 s5 s6 s7 : FI F)
    (v349 : BitVec 32) (v444 : FVec F S16 .f32) (v446 : FVec F S16 .f32) (v448 : FVec F S16 .f32) (v450 : FVec F S16 .f32) (v452 : FVec F S16 .f32) (v454 : FVec F S16 .f32) (v456 : FVec F S16 .f32) (v458 : FVec F S16 .f32)
    (k : Fin k0_t5_loop.trips) :
    (b1.view.loc (thr d L) ↦{fullShare} fb : sProp 𝕄)
      ⊢ wp frame (wpE (defs₀ (F := F)) 𝒱₀ (thr d L) none) Set.univ
          (k0_t5_body (F := F) L xW (Memref.isWhole_whole _) vW (Memref.isWhole_whole _) iW (Memref.isWhole_whole _) b0 (Memref.isWhole_whole _) b1 (Memref.isWhole_whole _) mV (Memref.isWhole_whole _) mI (Memref.isWhole_whole _) cc0_scratch4 cc0_scratch5 cc0_scoped0 cc0_scoped1
            k0_pay694 k0_pay695 k0_pay696 k0_pay697 v349 v444 v446 v448 v450 v452 v454 v456 v458 k (carry fb 128 base s0 s1 s2 s3 s4 s5 s6 s7 k.val))
          fun acc => iprop(⌜acc = carry fb 128 base s0 s1 s2 s3 s4 s5 s6 s7 (k.val + 1)⌝ ∗ b1.view.loc (thr d L) ↦{fullShare} fb) := by
  unfold k0_t5_body carry
  iintro H
  sl_exec
  sl_step
  sl_unfold_run_names
  isplitr
  · ipureintro
    rw [rows5_1, rows5_2, rows5_3, rows5_4]
    rw [readAt_b1 fb (k0_off29 k 0#32) _ _ _ (k0_off29_eq k 0), readAt_b1 fb (k0_off30 k 0#32) _ _ _ (k0_off30_eq k 0),
      readAt_b1 fb (k0_off31 k 0#32) _ _ _ (k0_off31_eq k 0), readAt_b1 fb (k0_off32 k 0#32) _ _ _ (k0_off32_eq k 0),
      readAt_b1 fb (k0_off33 k 0#32) _ _ _ (k0_off33_eq k 0), readAt_b1 fb (k0_off34 k 0#32) _ _ _ (k0_off34_eq k 0),
      readAt_b1 fb (k0_off35 k 0#32) _ _ _ (k0_off35_eq k 0), readAt_b1 fb (k0_off36 k 0#32) _ _ _ (k0_off36_eq k 0)]
    rw [readAt_b1 fb (k0_off29 k 1#32) _ _ _ (k0_off29_eq k 1), readAt_b1 fb (k0_off30 k 1#32) _ _ _ (k0_off30_eq k 1),
      readAt_b1 fb (k0_off31 k 1#32) _ _ _ (k0_off31_eq k 1), readAt_b1 fb (k0_off32 k 1#32) _ _ _ (k0_off32_eq k 1),
      readAt_b1 fb (k0_off33 k 1#32) _ _ _ (k0_off33_eq k 1), readAt_b1 fb (k0_off34 k 1#32) _ _ _ (k0_off34_eq k 1),
      readAt_b1 fb (k0_off35 k 1#32) _ _ _ (k0_off35_eq k 1), readAt_b1 fb (k0_off36 k 1#32) _ _ _ (k0_off36_eq k 1)]
    rw [readAt_b1 fb (k0_off29 k 2#32) _ _ _ (k0_off29_eq k 2), readAt_b1 fb (k0_off30 k 2#32) _ _ _ (k0_off30_eq k 2),
      readAt_b1 fb (k0_off31 k 2#32) _ _ _ (k0_off31_eq k 2), readAt_b1 fb (k0_off32 k 2#32) _ _ _ (k0_off32_eq k 2),
      readAt_b1 fb (k0_off33 k 2#32) _ _ _ (k0_off33_eq k 2), readAt_b1 fb (k0_off34 k 2#32) _ _ _ (k0_off34_eq k 2),
      readAt_b1 fb (k0_off35 k 2#32) _ _ _ (k0_off35_eq k 2), readAt_b1 fb (k0_off36 k 2#32) _ _ _ (k0_off36_eq k 2)]
    rw [readAt_b1 fb (k0_off29 k 3#32) _ _ _ (k0_off29_eq k 3), readAt_b1 fb (k0_off30 k 3#32) _ _ _ (k0_off30_eq k 3),
      readAt_b1 fb (k0_off31 k 3#32) _ _ _ (k0_off31_eq k 3), readAt_b1 fb (k0_off32 k 3#32) _ _ _ (k0_off32_eq k 3),
      readAt_b1 fb (k0_off33 k 3#32) _ _ _ (k0_off33_eq k 3), readAt_b1 fb (k0_off34 k 3#32) _ _ _ (k0_off34_eq k 3),
      readAt_b1 fb (k0_off35 k 3#32) _ _ _ (k0_off35_eq k 3), readAt_b1 fb (k0_off36 k 3#32) _ _ _ (k0_off36_eq k 3)]
    rfl
  · iexact H

end Cert.Argmin

end
-- ==== Proof.Trip.lean ====
/-
  What one trip of a tile's outer loop starts and ends with.
-/
module

public import proofs.«01_k».proof.Proof.Cell
public import proofs.«01_k».proof.Proof.Scan2
public import proofs.«01_k».proof.Proof.Scan3
public import proofs.«01_k».proof.Proof.Scan4
public import proofs.«01_k».proof.Proof.Scan5

@[expose] public section

set_option maxRecDepth 16384

noncomputable section

namespace Cert.Argmin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Two seventeen-component tuples with equal components. -/
theorem tup17 {A B C : Type} {r r' : A} {a0 a1 a2 a3 a4 a5 a6 a7 b0 b1 b2 b3 b4 b5 b6 b7 : B} {c0 c1 c2 c3 c4 c5 c6 c7 e0 e1 e2 e3 e4 e5 e6 e7 : C}
    (h : r = r') (h0 : a0 = b0) (h1 : a1 = b1) (h2 : a2 = b2) (h3 : a3 = b3) (h4 : a4 = b4) (h5 : a5 = b5) (h6 : a6 = b6) (h7 : a7 = b7)
    (i0 : c0 = e0) (i1 : c1 = e1) (i2 : c2 = e2) (i3 : c3 = e3) (i4 : c4 = e4) (i5 : c5 = e5) (i6 : c6 = e6) (i7 : c7 = e7) :
    (r, a0, a1, a2, a3, a4, a5, a6, a7, c0, c1, c2, c3, c4, c5, c6, c7) = (r', b0, b1, b2, b3, b4, b5, b6, b7, e0, e1, e2, e3, e4, e5, e6, e7) := by
  subst h h0 h1 h2 h3 h4 h5 h6 h7 i0 i1 i2 i3 i4 i5 i6 i7; rfl

/-- The row numbers before the first row. -/
theorem row0 (base : IVec S16 32) : base = fun x => base x + BitVec.ofNat 32 (4 * 0) := by
  funext x; simp

/-- The first row of trip `k`'s first chunk. -/
theorem rowbase : ∀ k : Fin k0_t1_loop.trips, (2304#32 + (Scf.iv 0#32 1#32 k * 2#32 + 0#32) * 128#32 : BitVec 32) = BitVec.ofNat 32 (2304 + 128 * (2 * k.val)) := by
  decide +kernel

/-- The first row of trip `k`'s second chunk. -/
theorem rowbase' : ∀ k : Fin k0_t1_loop.trips, (2304#32 + (Scf.iv 0#32 1#32 k * 2#32 + 1#32) * 128#32 : BitVec 32) = BitVec.ofNat 32 (2304 + 128 * (2 * k.val + 1)) := by
  decide +kernel

/-- The number of an entry of a 256-lane row. -/
theorem at1_val (c : ℕ) (hc : c + 16 ≤ 256) (x : S16.Idx) : ((at1 (c + (x 0).val)) 0).val = c + (x 0).val := by
  have hx : (x 0).val < 16 := (x 0).isLt
  exact Nat.mod_eq_of_lt (by omega)

/-- A lane group of the two rows, scanned through chunk `g`, is that group of the rows one chunk on: the minima; -/
theorem fold_scanF (fx : S4x4096x2048.Idx → F .f32) (L : grid0.Coords) (g c : ℕ) (hc : c + 16 ≤ 256) (base : IVec S16 32)
    (hb : base = fun _ => BitVec.ofNat 32 (2304 + 128 * g)) (fm fi) (hfm : fm = scanF fx L (128 * g)) (hfi : fi = scanI fx L (128 * g)) (x : S16.Idx) :
    (fold (chunk fx L g) c base 128 (grp fm fi c)).1 x = scanF fx L (128 * (g + 1)) (at1 (c + (x 0).val)) := by
  subst hfm hfi
  have h := fold_chunk fx L g c hc base hb (grp (scanF fx L (128 * g)) (scanI fx L (128 * g)) c)
    (fun x => by simp only [grp, scanF, scanI]; rw [at1_val c hc x]) x 128 (Nat.le_refl _)
  simp only [scanF]; rw [at1_val c hc x]; exact congrArg Prod.fst h

/-- and their rows. -/
theorem fold_scanI (fx : S4x4096x2048.Idx → F .f32) (L : grid0.Coords) (g c : ℕ) (hc : c + 16 ≤ 256) (base : IVec S16 32)
    (hb : base = fun _ => BitVec.ofNat 32 (2304 + 128 * g)) (fm fi) (hfm : fm = scanF fx L (128 * g)) (hfi : fi = scanI fx L (128 * g)) (x : S16.Idx) :
    (fold (chunk fx L g) c base 128 (grp fm fi c)).2 x = scanI fx L (128 * (g + 1)) (at1 (c + (x 0).val)) := by
  subst hfm hfi
  have h := fold_chunk fx L g c hc base hb (grp (scanF fx L (128 * g)) (scanI fx L (128 * g)) c)
    (fun x => by simp only [grp, scanF, scanI]; rw [at1_val c hc x]) x 128 (Nat.le_refl _)
  simp only [scanI]; rw [at1_val c hc x]; exact congrArg Prod.snd h

section
variable (d : Dev nD) (L : grid0.Coords)

/-- The tile's copy of chunk `g` under way into the first staged block. -/
def inflight (fx : Buf (Elt F) ((thr d L).loc main_arg0_scv)) (q : PosShare TreeShare) (g : ℕ) : sProp 𝕄 :=
  iprop(∃ S : Finset S4x4096x2048.Idx,
    Transfers.Flight (countersEmb : UEmb Counters 𝕄) (thr d L) (.dma cc0_scratch4.sem) (none : HIx 1) 1048576
      iprop((b0.view.loc (thr d L) ↦{fullShare} chunk fx L g) ∗ xW.view.loc (thr d L) ↦[S]{Transfers.shareTokN q 0} fx)
    ∗ xW.view.loc (thr d L) ↦[Finset.univ \ S]{Transfers.shareTokN q 0} fx)

/-- The first staged block with no copy under way. -/
def idle (fx : Buf (Elt F) ((thr d L).loc main_arg0_scv)) (q : PosShare TreeShare) : sProp 𝕄 :=
  iprop(semVal (thr d L, SemLoc.dma cc0_scratch4.sem) 0 ∗ (xW.view.loc (thr d L) ↦{Transfers.shareTokN q 0} fx) ∗ ∃ f0, b0.view.loc (thr d L) ↦{fullShare} f0)

/-- The state before trip `k` of the loop over pairs of chunks: the two rows hold the scan of the first `2k` chunks, chunk `2k` is under
    way. -/
def inv (fx : Buf (Elt F) ((thr d L).loc main_arg0_scv)) (q : PosShare TreeShare) (O : CellTallies nD τ sig (HIx 1)) (W : Waits sig (HIx 1)) (k : ℕ) : sProp 𝕄 :=
  iprop(Transfers.MayWaits (thr d L) (none : HIx 1) O
    ∗ (xW.view.loc (thr d L) ↦{Transfers.shareTokN q 1} fx)
    ∗ (∃ f1, b1.view.loc (thr d L) ↦{fullShare} f1)
    ∗ semVal (thr d L, SemLoc.dma cc0_scratch5.sem) 0
    ∗ (mV.view.loc (thr d L) ↦{fullShare} scanF fx L (256 * k))
    ∗ (mI.view.loc (thr d L) ↦{fullShare} scanI fx L (256 * k))
    ∗ (if k < 7 then inflight d L fx q (2 * k) else idle d L fx q)
    ∗ ∃ W', ⌜∀ p ∈ W', p ∈ W ∨ p.2 = none⌝ ∗ owes (thr d L) O W')

/-- A chunk landed in a staged block. -/
theorem landed0 (f : Buf (Elt F) ((thr d L).loc cc0_scratch0)) (w w' : S128x256.Idx → F .f32) (h : w = w') :
    (b0.view.loc (thr d L) ↦{fullShare} View.write (Elt F) b0.view f w Finset.univ : sProp 𝕄) ⊢ b0.view.loc (thr d L) ↦{fullShare} w' := by
  subst h; exact Entails.of_eq (congrArg (fun g => (b0.view.loc (thr d L) ↦{fullShare} g : sProp 𝕄)) (View.write_whole_univ cc0_scratch0 f w))

/-- The same for the second block. -/
theorem landed1 (f : Buf (Elt F) ((thr d L).loc cc0_scratch1)) (w w' : S128x256.Idx → F .f32) (h : w = w') :
    (b1.view.loc (thr d L) ↦{fullShare} View.write (Elt F) b1.view f w Finset.univ : sProp 𝕄) ⊢ b1.view.loc (thr d L) ↦{fullShare} w' := by
  subst h; exact Entails.of_eq (congrArg (fun g => (b1.view.loc (thr d L) ↦{fullShare} g : sProp 𝕄)) (View.write_whole_univ cc0_scratch1 f w))

/-- A thing held is held under a name. -/
theorem name_it {A : Type} (P : A → sProp 𝕄) (a : A) : P a ⊢ iprop(∃ b, ⌜b = a⌝ ∗ P b) := by
  iintro H; iexists a; isplitr
  · ipureintro; rfl
  · iexact H

end

end Cert.Argmin

end
-- ==== Proof.TripNext.lean ====
/-
  A trip that is not the last: both chunks scanned, the copy of the next one under way.
-/
module

public import proofs.«01_k».proof.Proof.Cell
public import proofs.«01_k».proof.Proof.Scan2
public import proofs.«01_k».proof.Proof.Scan3
public import proofs.«01_k».proof.Proof.Scan4
public import proofs.«01_k».proof.Proof.Scan5
public import proofs.«01_k».proof.Proof.Trip

@[expose] public section

set_option maxRecDepth 16384

noncomputable section

namespace Cert.Argmin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 4000000
section
variable (d : Dev nD) (L : grid0.Coords)

/-- A trip that starts the next pair of chunks. -/
theorem trip_next (fx : Buf (Elt F) ((thr d L).loc main_arg0_scv)) (q : PosShare TreeShare) (O : CellTallies nD τ sig (HIx 1)) (W : Waits sig (HIx 1))
    (k : Fin k0_t1_loop.trips) (hk : k.val < 6) (v v' : IVec S16 32) (acc : BitVec 32) :
    inv (F := F) d L fx q O W k.val
      ⊢ wp frame (wpE (defs₀ (F := F)) 𝒱₀ (thr d L) none) Set.univ
          (k0_t1_body (F := F) L xW (Memref.isWhole_whole _) vW (Memref.isWhole_whole _) iW (Memref.isWhole_whole _) b0 (Memref.isWhole_whole _) b1 (Memref.isWhole_whole _) mV (Memref.isWhole_whole _) mI (Memref.isWhole_whole _) cc0_scratch4 cc0_scratch5 cc0_scoped0 cc0_scoped1 v v' k acc)
          fun _ => inv (F := F) d L fx q O W (k.val + 1) := by
  have h1 : k0_cond1 k = 1#1 := cond1_true k
  have h2 : k0_cond2 k = 1#1 := cond2_true k hk
  have hk7 : k.val < 7 := k.isLt
  unfold k0_t1_body inv
  rw [if_pos hk7]
  unfold inflight
  iintro ⟨Hmw, Hx1, ⟨%f1, Hb1⟩, Hs1, Hm, Hi, ⟨%S, HF0, Hx0⟩, %W', %hW', HO⟩
  ihave HmN := (name_it (fun f => (mV.view.loc (thr d L) ↦{fullShare} f : sProp 𝕄)) (scanF fx L (256 * k.val))) $$ Hm
  icases HmN with ⟨%fm, %hfm, Hm⟩
  ihave HiN := (name_it (fun f => (mI.view.loc (thr d L) ↦{fullShare} f : sProp 𝕄)) (scanI fx L (256 * k.val))) $$ Hi
  icases HiN with ⟨%fi, %hfi, Hi⟩
  sl_exec (disch := exact View.amount_pos _ _ (show 0 < S128x256.numel by decide))
  sl_for (fun k' acc => iprop(⌜acc = carry (chunk fx L (2 * k.val)) 0 (k0_pay525 (trip_next.sl.v169 k)) (grp fm fi 0) (grp fm fi 16) (grp fm fi 32) (grp fm fi 48) (grp fm fi 64) (grp fm fi 80) (grp fm fi 96) (grp fm fi 112) k'⌝ ∗ b0.view.loc (thr d L) ↦{fullShare} (chunk fx L (2 * k.val)))) $$ [HF0_dst]
  case region =>
    intro k' acc
    iintro ⟨%e, H⟩
    subst e
    iapply (t2_step d L)
    iexact H
  · isplitr
    · ipureintro
      exact tup17 (row0 _) (load_m fm 0 _ _) (load_m fm 16 _ _) (load_m fm 32 _ _) (load_m fm 48 _ _) (load_m fm 64 _ _) (load_m fm 80 _ _) (load_m fm 96 _ _) (load_m fm 112 _ _) (load_i (F := F) fi 0 _ _) (load_i (F := F) fi 16 _ _) (load_i (F := F) fi 32 _ _) (load_i (F := F) fi 48 _ _) (load_i (F := F) fi 64 _ _) (load_i (F := F) fi 80 _ _) (load_i (F := F) fi 96 _ _) (load_i (F := F) fi 112 _ _)
    · iexact HF0_dst
  iintro %acc ⟨%t2e, HF0_dst⟩
  obtain ⟨r2, a0, a1, a2, a3, a4, a5, a6, a7, e0, e1, e2, e3, e4, e5, e6, e7⟩ := acc
  sl_exec (disch := exact View.amount_pos _ _ (show 0 < S128x256.numel by decide))
  sl_for (fun k' acc => iprop(⌜acc = carry (chunk fx L (2 * k.val)) 128 (k0_pay563 (trip_next.sl.v169 k)) (grp fm fi 128) (grp fm fi 144) (grp fm fi 160) (grp fm fi 176) (grp fm fi 192) (grp fm fi 208) (grp fm fi 224) (grp fm fi 240) k'⌝ ∗ b0.view.loc (thr d L) ↦{fullShare} (chunk fx L (2 * k.val)))) $$ [HF0_dst]
  case region =>
    intro k' acc
    iintro ⟨%e, H⟩
    subst e
    iapply (t3_step d L)
    iexact H
  · isplitr
    · ipureintro
      exact tup17 (row0 _) (load_m fm 128 _ _) (load_m fm 144 _ _) (load_m fm 160 _ _) (load_m fm 176 _ _) (load_m fm 192 _ _) (load_m fm 208 _ _) (load_m fm 224 _ _) (load_m fm 240 _ _) (load_i (F := F) fi 128 _ _) (load_i (F := F) fi 144 _ _) (load_i (F := F) fi 160 _ _) (load_i (F := F) fi 176 _ _) (load_i (F := F) fi 192 _ _) (load_i (F := F) fi 208 _ _) (load_i (F := F) fi 224 _ _) (load_i (F := F) fi 240 _ _)
    · iexact HF0_dst
  iintro %acc ⟨%t3e, HF0_dst⟩
  obtain ⟨r3, a8, a9, a10, a11, a12, a13, a14, a15, e8, e9, e10, e11, e12, e13, e14, e15⟩ := acc
  sl_exec (disch := exact View.amount_pos _ _ (show 0 < S128x256.numel by decide))
  have hfm0 : fm = scanF fx L (128 * (2 * k.val)) := by rw [hfm, show 256 * k.val = 128 * (2 * k.val) by omega]
  have hfi0 : fi = scanI fx L (128 * (2 * k.val)) := by rw [hfi, show 256 * k.val = 128 * (2 * k.val) by omega]
  have hb2 : k0_pay525 (trip_next.sl.v169 k) = fun _ => BitVec.ofNat 32 (2304 + 128 * (2 * k.val)) := funext fun _ => rowbase k
  have hb3 : k0_pay563 (trip_next.sl.v169 k) = fun _ => BitVec.ofNat 32 (2304 + 128 * (2 * k.val)) := funext fun _ => rowbase k
  ihave HmN := (name_it (fun f => (mV.view.loc (thr d L) ↦{fullShare} f : sProp 𝕄)) _) $$ Hm
  icases HmN with ⟨%m1, %hm1', Hm⟩
  have hm1 : m1 = scanF fx L (128 * ((2 * k.val) + 1)) :=
    hm1'.trans (writes_m (F := F) _ (scanF fx L (128 * ((2 * k.val) + 1))) _ _ _ _ _ _ _ _ _ _ _ _ _ _ _ _ _ _ _ _ _ _ _ _ _ _ _ _ _ _ _ _
      (fun x => (congrFun (shapeCast_self a0 _) x).trans ((congrFun (congrArg (fun p => p.2.1) t2e) x).trans (fold_scanF fx L (2 * k.val) 0 (by decide) _ hb2 _ _ hfm0 hfi0 x)))
      (fun x => (congrFun (shapeCast_self a1 _) x).trans ((congrFun (congrArg (fun p => p.2.2.1) t2e) x).trans (fold_scanF fx L (2 * k.val) 16 (by decide) _ hb2 _ _ hfm0 hfi0 x)))
      (fun x => (congrFun (shapeCast_self a2 _) x).trans ((congrFun (congrArg (fun p => p.2.2.2.1) t2e) x).trans (fold_scanF fx L (2 * k.val) 32 (by decide) _ hb2 _ _ hfm0 hfi0 x)))
      (fun x => (congrFun (shapeCast_self a3 _) x).trans ((congrFun (congrArg (fun p => p.2.2.2.2.1) t2e) x).trans (fold_scanF fx L (2 * k.val) 48 (by decide) _ hb2 _ _ hfm0 hfi0 x)))
      (fun x => (congrFun (shapeCast_self a4 _) x).trans ((congrFun (congrArg (fun p => p.2.2.2.2.2.1) t2e) x).trans (fold_scanF fx L (2 * k.val) 64 (by decide) _ hb2 _ _ hfm0 hfi0 x)))
      (fun x => (congrFun (shapeCast_self a5 _) x).trans ((congrFun (congrArg (fun p => p.2.2.2.2.2.2.1) t2e) x).trans (fold_scanF fx L (2 * k.val) 80 (by decide) _ hb2 _ _ hfm0 hfi0 x)))
      (fun x => (congrFun (shapeCast_self a6 _) x).trans ((congrFun (congrArg (fun p => p.2.2.2.2.2.2.2.1) t2e) x).trans (fold_scanF fx L (2 * k.val) 96 (by decide) _ hb2 _ _ hfm0 hfi0 x)))
      (fun x => (congrFun (shapeCast_self a7 _) x).trans ((congrFun (congrArg (fun p => p.2.2.2.2.2.2.2.2.1) t2e) x).trans (fold_scanF fx L (2 * k.val) 112 (by decide) _ hb2 _ _ hfm0 hfi0 x)))
      (fun x => (congrFun (shapeCast_self a8 _) x).trans ((congrFun (congrArg (fun p => p.2.1) t3e) x).trans (fold_scanF fx L (2 * k.val) 128 (by decide) _ hb3 _ _ hfm0 hfi0 x)))
      (fun x => (congrFun (shapeCast_self a9 _) x).trans ((congrFun (congrArg (fun p => p.2.2.1) t3e) x).trans (fold_scanF fx L (2 * k.val) 144 (by decide) _ hb3 _ _ hfm0 hfi0 x)))
      (fun x => (congrFun (shapeCast_self a10 _) x).trans ((congrFun (congrArg (fun p => p.2.2.2.1) t3e) x).trans (fold_scanF fx L (2 * k.val) 160 (by decide) _ hb3 _ _ hfm0 hfi0 x)))
      (fun x => (congrFun (shapeCast_self a11 _) x).trans ((congrFun (congrArg (fun p => p.2.2.2.2.1) t3e) x).trans (fold_scanF fx L (2 * k.val) 176 (by decide) _ hb3 _ _ hfm0 hfi0 x)))
      (fun x => (congrFun (shapeCast_self a12 _) x).trans ((congrFun (congrArg (fun p => p.2.2.2.2.2.1) t3e) x).trans (fold_scanF fx L (2 * k.val) 192 (by decide) _ hb3 _ _ hfm0 hfi0 x)))
      (fun x => (congrFun (shapeCast_self a13 _) x).trans ((congrFun (congrArg (fun p => p.2.2.2.2.2.2.1) t3e) x).trans (fold_scanF fx L (2 * k.val) 208 (by decide) _ hb3 _ _ hfm0 hfi0 x)))
      (fun x => (congrFun (shapeCast_self a14 _) x).trans ((congrFun (congrArg (fun p => p.2.2.2.2.2.2.2.1) t3e) x).trans (fold_scanF fx L (2 * k.val) 224 (by decide) _ hb3 _ _ hfm0 hfi0 x)))
      (fun x => (congrFun (shapeCast_self a15 _) x).trans ((congrFun (congrArg (fun p => p.2.2.2.2.2.2.2.2.1) t3e) x).trans (fold_scanF fx L (2 * k.val) 240 (by decide) _ hb3 _ _ hfm0 hfi0 x))))
  ihave HiN := (name_it (fun f => (mI.view.loc (thr d L) ↦{fullShare} f : sProp 𝕄)) _) $$ Hi
  icases HiN with ⟨%i1, %hi1', Hi⟩
  have hi1 : i1 = scanI fx L (128 * ((2 * k.val) + 1)) :=
    hi1'.trans (writes_i (F := F) _ (scanI fx L (128 * ((2 * k.val) + 1))) _ _ _ _ _ _ _ _ _ _ _ _ _ _ _ _ _ _ _ _ _ _ _ _ _ _ _ _ _ _ _ _
      (fun x => (congrFun (shapeCast_self e0 _) x).trans ((congrFun (congrArg (fun p => p.2.2.2.2.2.2.2.2.2.1) t2e) x).trans (fold_scanI fx L (2 * k.val) 0 (by decide) _ hb2 _ _ hfm0 hfi0 x)))
      (fun x => (congrFun (shapeCast_self e1 _) x).trans ((congrFun (congrArg (fun p => p.2.2.2.2.2.2.2.2.2.2.1) t2e) x).trans (fold_scanI fx L (2 * k.val) 16 (by decide) _ hb2 _ _ hfm0 hfi0 x)))
      (fun x => (congrFun (shapeCast_self e2 _) x).trans ((congrFun (congrArg (fun p => p.2.2.2.2.2.2.2.2.2.2.2.1) t2e) x).trans (fold_scanI fx L (2 * k.val) 32 (by decide) _ hb2 _ _ hfm0 hfi0 x)))
      (fun x => (congrFun (shapeCast_self e3 _) x).trans ((congrFun (congrArg (fun p => p.2.2.2.2.2.2.2.2.2.2.2.2.1) t2e) x).trans (fold_scanI fx L (2 * k.val) 48 (by decide) _ hb2 _ _ hfm0 hfi0 x)))
      (fun x => (congrFun (shapeCast_self e4 _) x).trans ((congrFun (congrArg (fun p => p.2.2.2.2.2.2.2.2.2.2.2.2.2.1) t2e) x).trans (fold_scanI fx L (2 * k.val) 64 (by decide) _ hb2 _ _ hfm0 hfi0 x)))
      (fun x => (congrFun (shapeCast_self e5 _) x).trans ((congrFun (congrArg (fun p => p.2.2.2.2.2.2.2.2.2.2.2.2.2.2.1) t2e) x).trans (fold_scanI fx L (2 * k.val) 80 (by decide) _ hb2 _ _ hfm0 hfi0 x)))
      (fun x => (congrFun (shapeCast_self e6 _) x).trans ((congrFun (congrArg (fun p => p.2.2.2.2.2.2.2.2.2.2.2.2.2.2.2.1) t2e) x).trans (fold_scanI fx L (2 * k.val) 96 (by decide) _ hb2 _ _ hfm0 hfi0 x)))
      (fun x => (congrFun (shapeCast_self e7 _) x).trans ((congrFun (congrArg (fun p => p.2.2.2.2.2.2.2.2.2.2.2.2.2.2.2.2) t2e) x).trans (fold_scanI fx L (2 * k.val) 112 (by decide) _ hb2 _ _ hfm0 hfi0 x)))
      (fun x => (congrFun (shapeCast_self e8 _) x).trans ((congrFun (congrArg (fun p => p.2.2.2.2.2.2.2.2.2.1) t3e) x).trans (fold_scanI fx L (2 * k.val) 128 (by decide) _ hb3 _ _ hfm0 hfi0 x)))
      (fun x => (congrFun (shapeCast_self e9 _) x).trans ((congrFun (congrArg (fun p => p.2.2.2.2.2.2.2.2.2.2.1) t3e) x).trans (fold_scanI fx L (2 * k.val) 144 (by decide) _ hb3 _ _ hfm0 hfi0 x)))
      (fun x => (congrFun (shapeCast_self e10 _) x).trans ((congrFun (congrArg (fun p => p.2.2.2.2.2.2.2.2.2.2.2.1) t3e) x).trans (fold_scanI fx L (2 * k.val) 160 (by decide) _ hb3 _ _ hfm0 hfi0 x)))
      (fun x => (congrFun (shapeCast_self e11 _) x).trans ((congrFun (congrArg (fun p => p.2.2.2.2.2.2.2.2.2.2.2.2.1) t3e) x).trans (fold_scanI fx L (2 * k.val) 176 (by decide) _ hb3 _ _ hfm0 hfi0 x)))
      (fun x => (congrFun (shapeCast_self e12 _) x).trans ((congrFun (congrArg (fun p => p.2.2.2.2.2.2.2.2.2.2.2.2.2.1) t3e) x).trans (fold_scanI fx L (2 * k.val) 192 (by decide) _ hb3 _ _ hfm0 hfi0 x)))
      (fun x => (congrFun (shapeCast_self e13 _) x).trans ((congrFun (congrArg (fun p => p.2.2.2.2.2.2.2.2.2.2.2.2.2.2.1) t3e) x).trans (fold_scanI fx L (2 * k.val) 208 (by decide) _ hb3 _ _ hfm0 hfi0 x)))
      (fun x => (congrFun (shapeCast_self e14 _) x).trans ((congrFun (congrArg (fun p => p.2.2.2.2.2.2.2.2.2.2.2.2.2.2.2.1) t3e) x).trans (fold_scanI fx L (2 * k.val) 224 (by decide) _ hb3 _ _ hfm0 hfi0 x)))
      (fun x => (congrFun (shapeCast_self e15 _) x).trans ((congrFun (congrArg (fun p => p.2.2.2.2.2.2.2.2.2.2.2.2.2.2.2.2) t3e) x).trans (fold_scanI fx L (2 * k.val) 240 (by decide) _ hb3 _ _ hfm0 hfi0 x))))
  ihave Hb1 := (landed1 d L f1 (trip_next.sl.dma0 d L fx k h1) (chunk fx L (2 * k.val + 1)) (read_chunk fx L (2 * k.val + 1) (k0_off2 L k) _ (off2_eq L k) _ _)) $$ Hb1
  sl_for (fun k' acc => iprop(⌜acc = carry (chunk fx L (2 * k.val + 1)) 0 (k0_pay601 (trip_next.sl.v349 k)) (grp m1 i1 0) (grp m1 i1 16) (grp m1 i1 32) (grp m1 i1 48) (grp m1 i1 64) (grp m1 i1 80) (grp m1 i1 96) (grp m1 i1 112) k'⌝ ∗ b1.view.loc (thr d L) ↦{fullShare} (chunk fx L (2 * k.val + 1)))) $$ [Hb1]
  case region =>
    intro k' acc
    iintro ⟨%e, H⟩
    subst e
    iapply (t4_step d L)
    iexact H
  · isplitr
    · ipureintro
      exact tup17 (row0 _) ((congrArg (fun f => shapeCast (s := S16) S16 (mV.view.readAt (Elt F) (Rect.unit (s := S256) ![0] S16.size (by decide)).toLoadRect f) shapeCasts_S16_S16) hm1'.symm).trans (load_m m1 0 _ _)) ((congrArg (fun f => shapeCast (s := S16) S16 (mV.view.readAt (Elt F) (Rect.unit (s := S256) ![16] S16.size (by decide)).toLoadRect f) shapeCasts_S16_S16) hm1'.symm).trans (load_m m1 16 _ _)) ((congrArg (fun f => shapeCast (s := S16) S16 (mV.view.readAt (Elt F) (Rect.unit (s := S256) ![32] S16.size (by decide)).toLoadRect f) shapeCasts_S16_S16) hm1'.symm).trans (load_m m1 32 _ _)) ((congrArg (fun f => shapeCast (s := S16) S16 (mV.view.readAt (Elt F) (Rect.unit (s := S256) ![48] S16.size (by decide)).toLoadRect f) shapeCasts_S16_S16) hm1'.symm).trans (load_m m1 48 _ _)) ((congrArg (fun f => shapeCast (s := S16) S16 (mV.view.readAt (Elt F) (Rect.unit (s := S256) ![64] S16.size (by decide)).toLoadRect f) shapeCasts_S16_S16) hm1'.symm).trans (load_m m1 64 _ _)) ((congrArg (fun f => shapeCast (s := S16) S16 (mV.view.readAt (Elt F) (Rect.unit (s := S256) ![80] S16.size (by decide)).toLoadRect f) shapeCasts_S16_S16) hm1'.symm).trans (load_m m1 80 _ _)) ((congrArg (fun f => shapeCast (s := S16) S16 (mV.view.readAt (Elt F) (Rect.unit (s := S256) ![96] S16.size (by decide)).toLoadRect f) shapeCasts_S16_S16) hm1'.symm).trans (load_m m1 96 _ _)) ((congrArg (fun f => shapeCast (s := S16) S16 (mV.view.readAt (Elt F) (Rect.unit (s := S256) ![112] S16.size (by decide)).toLoadRect f) shapeCasts_S16_S16) hm1'.symm).trans (load_m m1 112 _ _)) ((congrArg (fun f => shapeCast (s := S16) S16 (mI.view.readAt (Elt F) (Rect.unit (s := S256) ![0] S16.size (by decide)).toLoadRect f) shapeCasts_S16_S16) hi1'.symm).trans (load_i (F := F) i1 0 _ _)) ((congrArg (fun f => shapeCast (s := S16) S16 (mI.view.readAt (Elt F) (Rect.unit (s := S256) ![16] S16.size (by decide)).toLoadRect f) shapeCasts_S16_S16) hi1'.symm).trans (load_i (F := F) i1 16 _ _)) ((congrArg (fun f => shapeCast (s := S16) S16 (mI.view.readAt (Elt F) (Rect.unit (s := S256) ![32] S16.size (by decide)).toLoadRect f) shapeCasts_S16_S16) hi1'.symm).trans (load_i (F := F) i1 32 _ _)) ((congrArg (fun f => shapeCast (s := S16) S16 (mI.view.readAt (Elt F) (Rect.unit (s := S256) ![48] S16.size (by decide)).toLoadRect f) shapeCasts_S16_S16) hi1'.symm).trans (load_i (F := F) i1 48 _ _)) ((congrArg (fun f => shapeCast (s := S16) S16 (mI.view.readAt (Elt F) (Rect.unit (s := S256) ![64] S16.size (by decide)).toLoadRect f) shapeCasts_S16_S16) hi1'.symm).trans (load_i (F := F) i1 64 _ _)) ((congrArg (fun f => shapeCast (s := S16) S16 (mI.view.readAt (Elt F) (Rect.unit (s := S256) ![80] S16.size (by decide)).toLoadRect f) shapeCasts_S16_S16) hi1'.symm).trans (load_i (F := F) i1 80 _ _)) ((congrArg (fun f => shapeCast (s := S16) S16 (mI.view.readAt (Elt F) (Rect.unit (s := S256) ![96] S16.size (by decide)).toLoadRect f) shapeCasts_S16_S16) hi1'.symm).trans (load_i (F := F) i1 96 _ _)) ((congrArg (fun f => shapeCast (s := S16) S16 (mI.view.readAt (Elt F) (Rect.unit (s := S256) ![112] S16.size (by decide)).toLoadRect f) shapeCasts_S16_S16) hi1'.symm).trans (load_i (F := F) i1 112 _ _))
    · iexact Hb1
  iintro %acc ⟨%t4e, Hb1⟩
  obtain ⟨r4, a0, a1, a2, a3, a4, a5, a6, a7, e0, e1, e2, e3, e4, e5, e6, e7⟩ := acc
  sl_exec (disch := exact View.amount_pos _ _ (show 0 < S128x256.numel by decide))
  sl_for (fun k' acc => iprop(⌜acc = carry (chunk fx L (2 * k.val + 1)) 128 (k0_pay639 (trip_next.sl.v349 k)) (grp m1 i1 128) (grp m1 i1 144) (grp m1 i1 160) (grp m1 i1 176) (grp m1 i1 192) (grp m1 i1 208) (grp m1 i1 224) (grp m1 i1 240) k'⌝ ∗ b1.view.loc (thr d L) ↦{fullShare} (chunk fx L (2 * k.val + 1)))) $$ [Hb1]
  case region =>
    intro k' acc
    iintro ⟨%e, H⟩
    subst e
    iapply (t5_step d L)
    iexact H
  · isplitr
    · ipureintro
      exact tup17 (row0 _) (load_m m1 128 _ _) (load_m m1 144 _ _) (load_m m1 160 _ _) (load_m m1 176 _ _) (load_m m1 192 _ _) (load_m m1 208 _ _) (load_m m1 224 _ _) (load_m m1 240 _ _) (load_i (F := F) i1 128 _ _) (load_i (F := F) i1 144 _ _) (load_i (F := F) i1 160 _ _) (load_i (F := F) i1 176 _ _) (load_i (F := F) i1 192 _ _) (load_i (F := F) i1 208 _ _) (load_i (F := F) i1 224 _ _) (load_i (F := F) i1 240 _ _)
    · iexact Hb1
  iintro %acc ⟨%t5e, Hb1⟩
  obtain ⟨r5, a8, a9, a10, a11, a12, a13, a14, a15, e8, e9, e10, e11, e12, e13, e14, e15⟩ := acc
  sl_exec (disch := exact View.amount_pos _ _ (show 0 < S128x256.numel by decide))
  sl_step
  have hb4 : k0_pay601 (trip_next.sl.v349 k) = fun _ => BitVec.ofNat 32 (2304 + 128 * (2 * k.val + 1)) := funext fun _ => rowbase' k
  have hb5 : k0_pay639 (trip_next.sl.v349 k) = fun _ => BitVec.ofNat 32 (2304 + 128 * (2 * k.val + 1)) := funext fun _ => rowbase' k
  ihave HmN := (name_it (fun f => (mV.view.loc (thr d L) ↦{fullShare} f : sProp 𝕄)) _) $$ Hm
  icases HmN with ⟨%m2, %hm2', Hm⟩
  have hm2 : m2 = scanF fx L (128 * ((2 * k.val + 1) + 1)) :=
    hm2'.trans (writes_m (F := F) _ (scanF fx L (128 * ((2 * k.val + 1) + 1))) _ _ _ _ _ _ _ _ _ _ _ _ _ _ _ _ _ _ _ _ _ _ _ _ _ _ _ _ _ _ _ _
      (fun x => (congrFun (shapeCast_self a0 _) x).trans ((congrFun (congrArg (fun p => p.2.1) t4e) x).trans (fold_scanF fx L (2 * k.val + 1) 0 (by decide) _ hb4 _ _ hm1 hi1 x)))
      (fun x => (congrFun (shapeCast_self a1 _) x).trans ((congrFun (congrArg (fun p => p.2.2.1) t4e) x).trans (fold_scanF fx L (2 * k.val + 1) 16 (by decide) _ hb4 _ _ hm1 hi1 x)))
      (fun x => (congrFun (shapeCast_self a2 _) x).trans ((congrFun (congrArg (fun p => p.2.2.2.1) t4e) x).trans (fold_scanF fx L (2 * k.val + 1) 32 (by decide) _ hb4 _ _ hm1 hi1 x)))
      (fun x => (congrFun (shapeCast_self a3 _) x).trans ((congrFun (congrArg (fun p => p.2.2.2.2.1) t4e) x).trans (fold_scanF fx L (2 * k.val + 1) 48 (by decide) _ hb4 _ _ hm1 hi1 x)))
      (fun x => (congrFun (shapeCast_self a4 _) x).trans ((congrFun (congrArg (fun p => p.2.2.2.2.2.1) t4e) x).trans (fold_scanF fx L (2 * k.val + 1) 64 (by decide) _ hb4 _ _ hm1 hi1 x)))
      (fun x => (congrFun (shapeCast_self a5 _) x).trans ((congrFun (congrArg (fun p => p.2.2.2.2.2.2.1) t4e) x).trans (fold_scanF fx L (2 * k.val + 1) 80 (by decide) _ hb4 _ _ hm1 hi1 x)))
      (fun x => (congrFun (shapeCast_self a6 _) x).trans ((congrFun (congrArg (fun p => p.2.2.2.2.2.2.2.1) t4e) x).trans (fold_scanF fx L (2 * k.val + 1) 96 (by decide) _ hb4 _ _ hm1 hi1 x)))
      (fun x => (congrFun (shapeCast_self a7 _) x).trans ((congrFun (congrArg (fun p => p.2.2.2.2.2.2.2.2.1) t4e) x).trans (fold_scanF fx L (2 * k.val + 1) 112 (by decide) _ hb4 _ _ hm1 hi1 x)))
      (fun x => (congrFun (shapeCast_self a8 _) x).trans ((congrFun (congrArg (fun p => p.2.1) t5e) x).trans (fold_scanF fx L (2 * k.val + 1) 128 (by decide) _ hb5 _ _ hm1 hi1 x)))
      (fun x => (congrFun (shapeCast_self a9 _) x).trans ((congrFun (congrArg (fun p => p.2.2.1) t5e) x).trans (fold_scanF fx L (2 * k.val + 1) 144 (by decide) _ hb5 _ _ hm1 hi1 x)))
      (fun x => (congrFun (shapeCast_self a10 _) x).trans ((congrFun (congrArg (fun p => p.2.2.2.1) t5e) x).trans (fold_scanF fx L (2 * k.val + 1) 160 (by decide) _ hb5 _ _ hm1 hi1 x)))
      (fun x => (congrFun (shapeCast_self a11 _) x).trans ((congrFun (congrArg (fun p => p.2.2.2.2.1) t5e) x).trans (fold_scanF fx L (2 * k.val + 1) 176 (by decide) _ hb5 _ _ hm1 hi1 x)))
      (fun x => (congrFun (shapeCast_self a12 _) x).trans ((congrFun (congrArg (fun p => p.2.2.2.2.2.1) t5e) x).trans (fold_scanF fx L (2 * k.val + 1) 192 (by decide) _ hb5 _ _ hm1 hi1 x)))
      (fun x => (congrFun (shapeCast_self a13 _) x).trans ((congrFun (congrArg (fun p => p.2.2.2.2.2.2.1) t5e) x).trans (fold_scanF fx L (2 * k.val + 1) 208 (by decide) _ hb5 _ _ hm1 hi1 x)))
      (fun x => (congrFun (shapeCast_self a14 _) x).trans ((congrFun (congrArg (fun p => p.2.2.2.2.2.2.2.1) t5e) x).trans (fold_scanF fx L (2 * k.val + 1) 224 (by decide) _ hb5 _ _ hm1 hi1 x)))
      (fun x => (congrFun (shapeCast_self a15 _) x).trans ((congrFun (congrArg (fun p => p.2.2.2.2.2.2.2.2.1) t5e) x).trans (fold_scanF fx L (2 * k.val + 1) 240 (by decide) _ hb5 _ _ hm1 hi1 x))))
  ihave HiN := (name_it (fun f => (mI.view.loc (thr d L) ↦{fullShare} f : sProp 𝕄)) _) $$ Hi
  icases HiN with ⟨%i2, %hi2', Hi⟩
  have hi2 : i2 = scanI fx L (128 * ((2 * k.val + 1) + 1)) :=
    hi2'.trans (writes_i (F := F) _ (scanI fx L (128 * ((2 * k.val + 1) + 1))) _ _ _ _ _ _ _ _ _ _ _ _ _ _ _ _ _ _ _ _ _ _ _ _ _ _ _ _ _ _ _ _
      (fun x => (congrFun (shapeCast_self e0 _) x).trans ((congrFun (congrArg (fun p => p.2.2.2.2.2.2.2.2.2.1) t4e) x).trans (fold_scanI fx L (2 * k.val + 1) 0 (by decide) _ hb4 _ _ hm1 hi1 x)))
      (fun x => (congrFun (shapeCast_self e1 _) x).trans ((congrFun (congrArg (fun p => p.2.2.2.2.2.2.2.2.2.2.1) t4e) x).trans (fold_scanI fx L (2 * k.val + 1) 16 (by decide) _ hb4 _ _ hm1 hi1 x)))
      (fun x => (congrFun (shapeCast_self e2 _) x).trans ((congrFun (congrArg (fun p => p.2.2.2.2.2.2.2.2.2.2.2.1) t4e) x).trans (fold_scanI fx L (2 * k.val + 1) 32 (by decide) _ hb4 _ _ hm1 hi1 x)))
      (fun x => (congrFun (shapeCast_self e3 _) x).trans ((congrFun (congrArg (fun p => p.2.2.2.2.2.2.2.2.2.2.2.2.1) t4e) x).trans (fold_scanI fx L (2 * k.val + 1) 48 (by decide) _ hb4 _ _ hm1 hi1 x)))
      (fun x => (congrFun (shapeCast_self e4 _) x).trans ((congrFun (congrArg (fun p => p.2.2.2.2.2.2.2.2.2.2.2.2.2.1) t4e) x).trans (fold_scanI fx L (2 * k.val + 1) 64 (by decide) _ hb4 _ _ hm1 hi1 x)))
      (fun x => (congrFun (shapeCast_self e5 _) x).trans ((congrFun (congrArg (fun p => p.2.2.2.2.2.2.2.2.2.2.2.2.2.2.1) t4e) x).trans (fold_scanI fx L (2 * k.val + 1) 80 (by decide) _ hb4 _ _ hm1 hi1 x)))
      (fun x => (congrFun (shapeCast_self e6 _) x).trans ((congrFun (congrArg (fun p => p.2.2.2.2.2.2.2.2.2.2.2.2.2.2.2.1) t4e) x).trans (fold_scanI fx L (2 * k.val + 1) 96 (by decide) _ hb4 _ _ hm1 hi1 x)))
      (fun x => (congrFun (shapeCast_self e7 _) x).trans ((congrFun (congrArg (fun p => p.2.2.2.2.2.2.2.2.2.2.2.2.2.2.2.2) t4e) x).trans (fold_scanI fx L (2 * k.val + 1) 112 (by decide) _ hb4 _ _ hm1 hi1 x)))
      (fun x => (congrFun (shapeCast_self e8 _) x).trans ((congrFun (congrArg (fun p => p.2.2.2.2.2.2.2.2.2.1) t5e) x).trans (fold_scanI fx L (2 * k.val + 1) 128 (by decide) _ hb5 _ _ hm1 hi1 x)))
      (fun x => (congrFun (shapeCast_self e9 _) x).trans ((congrFun (congrArg (fun p => p.2.2.2.2.2.2.2.2.2.2.1) t5e) x).trans (fold_scanI fx L (2 * k.val + 1) 144 (by decide) _ hb5 _ _ hm1 hi1 x)))
      (fun x => (congrFun (shapeCast_self e10 _) x).trans ((congrFun (congrArg (fun p => p.2.2.2.2.2.2.2.2.2.2.2.1) t5e) x).trans (fold_scanI fx L (2 * k.val + 1) 160 (by decide) _ hb5 _ _ hm1 hi1 x)))
      (fun x => (congrFun (shapeCast_self e11 _) x).trans ((congrFun (congrArg (fun p => p.2.2.2.2.2.2.2.2.2.2.2.2.1) t5e) x).trans (fold_scanI fx L (2 * k.val + 1) 176 (by decide) _ hb5 _ _ hm1 hi1 x)))
      (fun x => (congrFun (shapeCast_self e12 _) x).trans ((congrFun (congrArg (fun p => p.2.2.2.2.2.2.2.2.2.2.2.2.2.1) t5e) x).trans (fold_scanI fx L (2 * k.val + 1) 192 (by decide) _ hb5 _ _ hm1 hi1 x)))
      (fun x => (congrFun (shapeCast_self e13 _) x).trans ((congrFun (congrArg (fun p => p.2.2.2.2.2.2.2.2.2.2.2.2.2.2.1) t5e) x).trans (fold_scanI fx L (2 * k.val + 1) 208 (by decide) _ hb5 _ _ hm1 hi1 x)))
      (fun x => (congrFun (shapeCast_self e14 _) x).trans ((congrFun (congrArg (fun p => p.2.2.2.2.2.2.2.2.2.2.2.2.2.2.2.1) t5e) x).trans (fold_scanI fx L (2 * k.val + 1) 224 (by decide) _ hb5 _ _ hm1 hi1 x)))
      (fun x => (congrFun (shapeCast_self e15 _) x).trans ((congrFun (congrArg (fun p => p.2.2.2.2.2.2.2.2.2.2.2.2.2.2.2.2) t5e) x).trans (fold_scanI fx L (2 * k.val + 1) 240 (by decide) _ hb5 _ _ hm1 hi1 x))))
  have en : 256 * (k.val + 1) = 128 * ((2 * k.val + 1) + 1) := by omega
  rw [en]
  isplitl [Hmw]; · iexact Hmw
  isplitl [Hx1]; · iexact Hx1
  isplitl [Hb1]; · iexists _; iexact Hb1
  isplitl [Hs1]; · iexact Hs1
  isplitl [Hm]; · rw [← hm2]; iexact Hm
  isplitl [Hi]; · rw [← hi2]; iexact Hi
  isplitl [HF0 Hx0]
  · rw [if_pos (by omega)]
    iexists ((xW.slice (Rect.unit (s := S4x4096x2048) (k0_off20 L k) S1x128x256.size (k0_off20_inb L k h2)) (fun _ => rfl)).squeeze S128x256 squeezes_S1x128x256_S128x256).view.set
    isplitl [HF0]
    · iapply (Transfers.Flight_mono (countersEmb : UEmb Counters 𝕄) (thr d L) (sep_mono_left (landed0 d L _ (trip_next.sl.dma32 d L fx k h2) (chunk fx L (2 * (k.val + 1)))
        (read_chunk fx L (2 * (k.val + 1)) (k0_off20 L k) _ (off20_eq L k) _ _))))
      iexact HF0
    · iexact Hx0
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    exact hW' p hp

end

end Cert.Argmin

end
-- ==== Proof.TripLast.lean ====
/-
  The last trip: the last two chunks scanned, and no further copy started.
-/
module

public import proofs.«01_k».proof.Proof.Cell
public import proofs.«01_k».proof.Proof.Scan2
public import proofs.«01_k».proof.Proof.Scan3
public import proofs.«01_k».proof.Proof.Scan4
public import proofs.«01_k».proof.Proof.Scan5
public import proofs.«01_k».proof.Proof.Trip

@[expose] public section

set_option maxRecDepth 16384

noncomputable section

namespace Cert.Argmin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 4000000
section
variable (d : Dev nD) (L : grid0.Coords)

/-- The last trip. -/
theorem trip_last (fx : Buf (Elt F) ((thr d L).loc main_arg0_scv)) (q : PosShare TreeShare) (O : CellTallies nD τ sig (HIx 1)) (W : Waits sig (HIx 1))
    (k : Fin k0_t1_loop.trips) (hk : ¬ k.val < 6) (v v' : IVec S16 32) (acc : BitVec 32) :
    inv (F := F) d L fx q O W k.val
      ⊢ wp frame (wpE (defs₀ (F := F)) 𝒱₀ (thr d L) none) Set.univ
          (k0_t1_body (F := F) L xW (Memref.isWhole_whole _) vW (Memref.isWhole_whole _) iW (Memref.isWhole_whole _) b0 (Memref.isWhole_whole _) b1 (Memref.isWhole_whole _) mV (Memref.isWhole_whole _) mI (Memref.isWhole_whole _) cc0_scratch4 cc0_scratch5 cc0_scoped0 cc0_scoped1 v v' k acc)
          fun _ => inv (F := F) d L fx q O W (k.val + 1) := by
  have h1 : k0_cond1 k = 1#1 := cond1_true k
  have h2 : ¬ k0_cond2 k = 1#1 := cond2_false k hk
  have hk7 : k.val < 7 := k.isLt
  unfold k0_t1_body inv
  rw [if_pos hk7]
  unfold inflight
  iintro ⟨Hmw, Hx1, ⟨%f1, Hb1⟩, Hs1, Hm, Hi, ⟨%S, HF0, Hx0⟩, %W', %hW', HO⟩
  ihave HmN := (name_it (fun f => (mV.view.loc (thr d L) ↦{fullShare} f : sProp 𝕄)) (scanF fx L (256 * k.val))) $$ Hm
  icases HmN with ⟨%fm, %hfm, Hm⟩
  ihave HiN := (name_it (fun f => (mI.view.loc (thr d L) ↦{fullShare} f : sProp 𝕄)) (scanI fx L (256 * k.val))) $$ Hi
  icases HiN with ⟨%fi, %hfi, Hi⟩
  sl_exec (disch := exact View.amount_pos _ _ (show 0 < S128x256.numel by decide))
  sl_for (fun k' acc => iprop(⌜acc = carry (chunk fx L (2 * k.val)) 0 (k0_pay525 (trip_last.sl.v169 k)) (grp fm fi 0) (grp fm fi 16) (grp fm fi 32) (grp fm fi 48) (grp fm fi 64) (grp fm fi 80) (grp fm fi 96) (grp fm fi 112) k'⌝ ∗ b0.view.loc (thr d L) ↦{fullShare} (chunk fx L (2 * k.val)))) $$ [HF0_dst]
  case region =>
    intro k' acc
    iintro ⟨%e, H⟩
    subst e
    iapply (t2_step d L)
    iexact H
  · isplitr
    · ipureintro
      exact tup17 (row0 _) (load_m fm 0 _ _) (load_m fm 16 _ _) (load_m fm 32 _ _) (load_m fm 48 _ _) (load_m fm 64 _ _) (load_m fm 80 _ _) (load_m fm 96 _ _) (load_m fm 112 _ _) (load_i (F := F) fi 0 _ _) (load_i (F := F) fi 16 _ _) (load_i (F := F) fi 32 _ _) (load_i (F := F) fi 48 _ _) (load_i (F := F) fi 64 _ _) (load_i (F := F) fi 80 _ _) (load_i (F := F) fi 96 _ _) (load_i (F := F) fi 112 _ _)
    · iexact HF0_dst
  iintro %acc ⟨%t2e, HF0_dst⟩
  obtain ⟨r2, a0, a1, a2, a3, a4, a5, a6, a7, e0, e1, e2, e3, e4, e5, e6, e7⟩ := acc
  sl_exec (disch := exact View.amount_pos _ _ (show 0 < S128x256.numel by decide))
  sl_for (fun k' acc => iprop(⌜acc = carry (chunk fx L (2 * k.val)) 128 (k0_pay563 (trip_last.sl.v169 k)) (grp fm fi 128) (grp fm fi 144) (grp fm fi 160) (grp fm fi 176) (grp fm fi 192) (grp fm fi 208) (grp fm fi 224) (grp fm fi 240) k'⌝ ∗ b0.view.loc (thr d L) ↦{fullShare} (chunk fx L (2 * k.val)))) $$ [HF0_dst]
  case region =>
    intro k' acc
    iintro ⟨%e, H⟩
    subst e
    iapply (t3_step d L)
    iexact H
  · isplitr
    · ipureintro
      exact tup17 (row0 _) (load_m fm 128 _ _) (load_m fm 144 _ _) (load_m fm 160 _ _) (load_m fm 176 _ _) (load_m fm 192 _ _) (load_m fm 208 _ _) (load_m fm 224 _ _) (load_m fm 240 _ _) (load_i (F := F) fi 128 _ _) (load_i (F := F) fi 144 _ _) (load_i (F := F) fi 160 _ _) (load_i (F := F) fi 176 _ _) (load_i (F := F) fi 192 _ _) (load_i (F := F) fi 208 _ _) (load_i (F := F) fi 224 _ _) (load_i (F := F) fi 240 _ _)
    · iexact HF0_dst
  iintro %acc ⟨%t3e, HF0_dst⟩
  obtain ⟨r3, a8, a9, a10, a11, a12, a13, a14, a15, e8, e9, e10, e11, e12, e13, e14, e15⟩ := acc
  sl_exec (disch := exact View.amount_pos _ _ (show 0 < S128x256.numel by decide))
  have hfm0 : fm = scanF fx L (128 * (2 * k.val)) := by rw [hfm, show 256 * k.val = 128 * (2 * k.val) by omega]
  have hfi0 : fi = scanI fx L (128 * (2 * k.val)) := by rw [hfi, show 256 * k.val = 128 * (2 * k.val) by omega]
  have hb2 : k0_pay525 (trip_last.sl.v169 k) = fun _ => BitVec.ofNat 32 (2304 + 128 * (2 * k.val)) := funext fun _ => rowbase k
  have hb3 : k0_pay563 (trip_last.sl.v169 k) = fun _ => BitVec.ofNat 32 (2304 + 128 * (2 * k.val)) := funext fun _ => rowbase k
  ihave HmN := (name_it (fun f => (mV.view.loc (thr d L) ↦{fullShare} f : sProp 𝕄)) _) $$ Hm
  icases HmN with ⟨%m1, %hm1', Hm⟩
  have hm1 : m1 = scanF fx L (128 * ((2 * k.val) + 1)) :=
    hm1'.trans (writes_m (F := F) _ (scanF fx L (128 * ((2 * k.val) + 1))) _ _ _ _ _ _ _ _ _ _ _ _ _ _ _ _ _ _ _ _ _ _ _ _ _ _ _ _ _ _ _ _
      (fun x => (congrFun (shapeCast_self a0 _) x).trans ((congrFun (congrArg (fun p => p.2.1) t2e) x).trans (fold_scanF fx L (2 * k.val) 0 (by decide) _ hb2 _ _ hfm0 hfi0 x)))
      (fun x => (congrFun (shapeCast_self a1 _) x).trans ((congrFun (congrArg (fun p => p.2.2.1) t2e) x).trans (fold_scanF fx L (2 * k.val) 16 (by decide) _ hb2 _ _ hfm0 hfi0 x)))
      (fun x => (congrFun (shapeCast_self a2 _) x).trans ((congrFun (congrArg (fun p => p.2.2.2.1) t2e) x).trans (fold_scanF fx L (2 * k.val) 32 (by decide) _ hb2 _ _ hfm0 hfi0 x)))
      (fun x => (congrFun (shapeCast_self a3 _) x).trans ((congrFun (congrArg (fun p => p.2.2.2.2.1) t2e) x).trans (fold_scanF fx L (2 * k.val) 48 (by decide) _ hb2 _ _ hfm0 hfi0 x)))
      (fun x => (congrFun (shapeCast_self a4 _) x).trans ((congrFun (congrArg (fun p => p.2.2.2.2.2.1) t2e) x).trans (fold_scanF fx L (2 * k.val) 64 (by decide) _ hb2 _ _ hfm0 hfi0 x)))
      (fun x => (congrFun (shapeCast_self a5 _) x).trans ((congrFun (congrArg (fun p => p.2.2.2.2.2.2.1) t2e) x).trans (fold_scanF fx L (2 * k.val) 80 (by decide) _ hb2 _ _ hfm0 hfi0 x)))
      (fun x => (congrFun (shapeCast_self a6 _) x).trans ((congrFun (congrArg (fun p => p.2.2.2.2.2.2.2.1) t2e) x).trans (fold_scanF fx L (2 * k.val) 96 (by decide) _ hb2 _ _ hfm0 hfi0 x)))
      (fun x => (congrFun (shapeCast_self a7 _) x).trans ((congrFun (congrArg (fun p => p.2.2.2.2.2.2.2.2.1) t2e) x).trans (fold_scanF fx L (2 * k.val) 112 (by decide) _ hb2 _ _ hfm0 hfi0 x)))
      (fun x => (congrFun (shapeCast_self a8 _) x).trans ((congrFun (congrArg (fun p => p.2.1) t3e) x).trans (fold_scanF fx L (2 * k.val) 128 (by decide) _ hb3 _ _ hfm0 hfi0 x)))
      (fun x => (congrFun (shapeCast_self a9 _) x).trans ((congrFun (congrArg (fun p => p.2.2.1) t3e) x).trans (fold_scanF fx L (2 * k.val) 144 (by decide) _ hb3 _ _ hfm0 hfi0 x)))
      (fun x => (congrFun (shapeCast_self a10 _) x).trans ((congrFun (congrArg (fun p => p.2.2.2.1) t3e) x).trans (fold_scanF fx L (2 * k.val) 160 (by decide) _ hb3 _ _ hfm0 hfi0 x)))
      (fun x => (congrFun (shapeCast_self a11 _) x).trans ((congrFun (congrArg (fun p => p.2.2.2.2.1) t3e) x).trans (fold_scanF fx L (2 * k.val) 176 (by decide) _ hb3 _ _ hfm0 hfi0 x)))
      (fun x => (congrFun (shapeCast_self a12 _) x).trans ((congrFun (congrArg (fun p => p.2.2.2.2.2.1) t3e) x).trans (fold_scanF fx L (2 * k.val) 192 (by decide) _ hb3 _ _ hfm0 hfi0 x)))
      (fun x => (congrFun (shapeCast_self a13 _) x).trans ((congrFun (congrArg (fun p => p.2.2.2.2.2.2.1) t3e) x).trans (fold_scanF fx L (2 * k.val) 208 (by decide) _ hb3 _ _ hfm0 hfi0 x)))
      (fun x => (congrFun (shapeCast_self a14 _) x).trans ((congrFun (congrArg (fun p => p.2.2.2.2.2.2.2.1) t3e) x).trans (fold_scanF fx L (2 * k.val) 224 (by decide) _ hb3 _ _ hfm0 hfi0 x)))
      (fun x => (congrFun (shapeCast_self a15 _) x).trans ((congrFun (congrArg (fun p => p.2.2.2.2.2.2.2.2.1) t3e) x).trans (fold_scanF fx L (2 * k.val) 240 (by decide) _ hb3 _ _ hfm0 hfi0 x))))
  ihave HiN := (name_it (fun f => (mI.view.loc (thr d L) ↦{fullShare} f : sProp 𝕄)) _) $$ Hi
  icases HiN with ⟨%i1, %hi1', Hi⟩
  have hi1 : i1 = scanI fx L (128 * ((2 * k.val) + 1)) :=
    hi1'.trans (writes_i (F := F) _ (scanI fx L (128 * ((2 * k.val) + 1))) _ _ _ _ _ _ _ _ _ _ _ _ _ _ _ _ _ _ _ _ _ _ _ _ _ _ _ _ _ _ _ _
      (fun x => (congrFun (shapeCast_self e0 _) x).trans ((congrFun (congrArg (fun p => p.2.2.2.2.2.2.2.2.2.1) t2e) x).trans (fold_scanI fx L (2 * k.val) 0 (by decide) _ hb2 _ _ hfm0 hfi0 x)))
      (fun x => (congrFun (shapeCast_self e1 _) x).trans ((congrFun (congrArg (fun p => p.2.2.2.2.2.2.2.2.2.2.1) t2e) x).trans (fold_scanI fx L (2 * k.val) 16 (by decide) _ hb2 _ _ hfm0 hfi0 x)))
      (fun x => (congrFun (shapeCast_self e2 _) x).trans ((congrFun (congrArg (fun p => p.2.2.2.2.2.2.2.2.2.2.2.1) t2e) x).trans (fold_scanI fx L (2 * k.val) 32 (by decide) _ hb2 _ _ hfm0 hfi0 x)))
      (fun x => (congrFun (shapeCast_self e3 _) x).trans ((congrFun (congrArg (fun p => p.2.2.2.2.2.2.2.2.2.2.2.2.1) t2e) x).trans (fold_scanI fx L (2 * k.val) 48 (by decide) _ hb2 _ _ hfm0 hfi0 x)))
      (fun x => (congrFun (shapeCast_self e4 _) x).trans ((congrFun (congrArg (fun p => p.2.2.2.2.2.2.2.2.2.2.2.2.2.1) t2e) x).trans (fold_scanI fx L (2 * k.val) 64 (by decide) _ hb2 _ _ hfm0 hfi0 x)))
      (fun x => (congrFun (shapeCast_self e5 _) x).trans ((congrFun (congrArg (fun p => p.2.2.2.2.2.2.2.2.2.2.2.2.2.2.1) t2e) x).trans (fold_scanI fx L (2 * k.val) 80 (by decide) _ hb2 _ _ hfm0 hfi0 x)))
      (fun x => (congrFun (shapeCast_self e6 _) x).trans ((congrFun (congrArg (fun p => p.2.2.2.2.2.2.2.2.2.2.2.2.2.2.2.1) t2e) x).trans (fold_scanI fx L (2 * k.val) 96 (by decide) _ hb2 _ _ hfm0 hfi0 x)))
      (fun x => (congrFun (shapeCast_self e7 _) x).trans ((congrFun (congrArg (fun p => p.2.2.2.2.2.2.2.2.2.2.2.2.2.2.2.2) t2e) x).trans (fold_scanI fx L (2 * k.val) 112 (by decide) _ hb2 _ _ hfm0 hfi0 x)))
      (fun x => (congrFun (shapeCast_self e8 _) x).trans ((congrFun (congrArg (fun p => p.2.2.2.2.2.2.2.2.2.1) t3e) x).trans (fold_scanI fx L (2 * k.val) 128 (by decide) _ hb3 _ _ hfm0 hfi0 x)))
      (fun x => (congrFun (shapeCast_self e9 _) x).trans ((congrFun (congrArg (fun p => p.2.2.2.2.2.2.2.2.2.2.1) t3e) x).trans (fold_scanI fx L (2 * k.val) 144 (by decide) _ hb3 _ _ hfm0 hfi0 x)))
      (fun x => (congrFun (shapeCast_self e10 _) x).trans ((congrFun (congrArg (fun p => p.2.2.2.2.2.2.2.2.2.2.2.1) t3e) x).trans (fold_scanI fx L (2 * k.val) 160 (by decide) _ hb3 _ _ hfm0 hfi0 x)))
      (fun x => (congrFun (shapeCast_self e11 _) x).trans ((congrFun (congrArg (fun p => p.2.2.2.2.2.2.2.2.2.2.2.2.1) t3e) x).trans (fold_scanI fx L (2 * k.val) 176 (by decide) _ hb3 _ _ hfm0 hfi0 x)))
      (fun x => (congrFun (shapeCast_self e12 _) x).trans ((congrFun (congrArg (fun p => p.2.2.2.2.2.2.2.2.2.2.2.2.2.1) t3e) x).trans (fold_scanI fx L (2 * k.val) 192 (by decide) _ hb3 _ _ hfm0 hfi0 x)))
      (fun x => (congrFun (shapeCast_self e13 _) x).trans ((congrFun (congrArg (fun p => p.2.2.2.2.2.2.2.2.2.2.2.2.2.2.1) t3e) x).trans (fold_scanI fx L (2 * k.val) 208 (by decide) _ hb3 _ _ hfm0 hfi0 x)))
      (fun x => (congrFun (shapeCast_self e14 _) x).trans ((congrFun (congrArg (fun p => p.2.2.2.2.2.2.2.2.2.2.2.2.2.2.2.1) t3e) x).trans (fold_scanI fx L (2 * k.val) 224 (by decide) _ hb3 _ _ hfm0 hfi0 x)))
      (fun x => (congrFun (shapeCast_self e15 _) x).trans ((congrFun (congrArg (fun p => p.2.2.2.2.2.2.2.2.2.2.2.2.2.2.2.2) t3e) x).trans (fold_scanI fx L (2 * k.val) 240 (by decide) _ hb3 _ _ hfm0 hfi0 x))))
  ihave Hb1 := (landed1 d L f1 (trip_last.sl.dma0 d L fx k h1) (chunk fx L (2 * k.val + 1)) (read_chunk fx L (2 * k.val + 1) (k0_off2 L k) _ (off2_eq L k) _ _)) $$ Hb1
  sl_for (fun k' acc => iprop(⌜acc = carry (chunk fx L (2 * k.val + 1)) 0 (k0_pay601 (trip_last.sl.v349 k)) (grp m1 i1 0) (grp m1 i1 16) (grp m1 i1 32) (grp m1 i1 48) (grp m1 i1 64) (grp m1 i1 80) (grp m1 i1 96) (grp m1 i1 112) k'⌝ ∗ b1.view.loc (thr d L) ↦{fullShare} (chunk fx L (2 * k.val + 1)))) $$ [Hb1]
  case region =>
    intro k' acc
    iintro ⟨%e, H⟩
    subst e
    iapply (t4_step d L)
    iexact H
  · isplitr
    · ipureintro
      exact tup17 (row0 _) ((congrArg (fun f => shapeCast (s := S16) S16 (mV.view.readAt (Elt F) (Rect.unit (s := S256) ![0] S16.size (by decide)).toLoadRect f) shapeCasts_S16_S16) hm1'.symm).trans (load_m m1 0 _ _)) ((congrArg (fun f => shapeCast (s := S16) S16 (mV.view.readAt (Elt F) (Rect.unit (s := S256) ![16] S16.size (by decide)).toLoadRect f) shapeCasts_S16_S16) hm1'.symm).trans (load_m m1 16 _ _)) ((congrArg (fun f => shapeCast (s := S16) S16 (mV.view.readAt (Elt F) (Rect.unit (s := S256) ![32] S16.size (by decide)).toLoadRect f) shapeCasts_S16_S16) hm1'.symm).trans (load_m m1 32 _ _)) ((congrArg (fun f => shapeCast (s := S16) S16 (mV.view.readAt (Elt F) (Rect.unit (s := S256) ![48] S16.size (by decide)).toLoadRect f) shapeCasts_S16_S16) hm1'.symm).trans (load_m m1 48 _ _)) ((congrArg (fun f => shapeCast (s := S16) S16 (mV.view.readAt (Elt F) (Rect.unit (s := S256) ![64] S16.size (by decide)).toLoadRect f) shapeCasts_S16_S16) hm1'.symm).trans (load_m m1 64 _ _)) ((congrArg (fun f => shapeCast (s := S16) S16 (mV.view.readAt (Elt F) (Rect.unit (s := S256) ![80] S16.size (by decide)).toLoadRect f) shapeCasts_S16_S16) hm1'.symm).trans (load_m m1 80 _ _)) ((congrArg (fun f => shapeCast (s := S16) S16 (mV.view.readAt (Elt F) (Rect.unit (s := S256) ![96] S16.size (by decide)).toLoadRect f) shapeCasts_S16_S16) hm1'.symm).trans (load_m m1 96 _ _)) ((congrArg (fun f => shapeCast (s := S16) S16 (mV.view.readAt (Elt F) (Rect.unit (s := S256) ![112] S16.size (by decide)).toLoadRect f) shapeCasts_S16_S16) hm1'.symm).trans (load_m m1 112 _ _)) ((congrArg (fun f => shapeCast (s := S16) S16 (mI.view.readAt (Elt F) (Rect.unit (s := S256) ![0] S16.size (by decide)).toLoadRect f) shapeCasts_S16_S16) hi1'.symm).trans (load_i (F := F) i1 0 _ _)) ((congrArg (fun f => shapeCast (s := S16) S16 (mI.view.readAt (Elt F) (Rect.unit (s := S256) ![16] S16.size (by decide)).toLoadRect f) shapeCasts_S16_S16) hi1'.symm).trans (load_i (F := F) i1 16 _ _)) ((congrArg (fun f => shapeCast (s := S16) S16 (mI.view.readAt (Elt F) (Rect.unit (s := S256) ![32] S16.size (by decide)).toLoadRect f) shapeCasts_S16_S16) hi1'.symm).trans (load_i (F := F) i1 32 _ _)) ((congrArg (fun f => shapeCast (s := S16) S16 (mI.view.readAt (Elt F) (Rect.unit (s := S256) ![48] S16.size (by decide)).toLoadRect f) shapeCasts_S16_S16) hi1'.symm).trans (load_i (F := F) i1 48 _ _)) ((congrArg (fun f => shapeCast (s := S16) S16 (mI.view.readAt (Elt F) (Rect.unit (s := S256) ![64] S16.size (by decide)).toLoadRect f) shapeCasts_S16_S16) hi1'.symm).trans (load_i (F := F) i1 64 _ _)) ((congrArg (fun f => shapeCast (s := S16) S16 (mI.view.readAt (Elt F) (Rect.unit (s := S256) ![80] S16.size (by decide)).toLoadRect f) shapeCasts_S16_S16) hi1'.symm).trans (load_i (F := F) i1 80 _ _)) ((congrArg (fun f => shapeCast (s := S16) S16 (mI.view.readAt (Elt F) (Rect.unit (s := S256) ![96] S16.size (by decide)).toLoadRect f) shapeCasts_S16_S16) hi1'.symm).trans (load_i (F := F) i1 96 _ _)) ((congrArg (fun f => shapeCast (s := S16) S16 (mI.view.readAt (Elt F) (Rect.unit (s := S256) ![112] S16.size (by decide)).toLoadRect f) shapeCasts_S16_S16) hi1'.symm).trans (load_i (F := F) i1 112 _ _))
    · iexact Hb1
  iintro %acc ⟨%t4e, Hb1⟩
  obtain ⟨r4, a0, a1, a2, a3, a4, a5, a6, a7, e0, e1, e2, e3, e4, e5, e6, e7⟩ := acc
  sl_exec (disch := exact View.amount_pos _ _ (show 0 < S128x256.numel by decide))
  sl_for (fun k' acc => iprop(⌜acc = carry (chunk fx L (2 * k.val + 1)) 128 (k0_pay639 (trip_last.sl.v349 k)) (grp m1 i1 128) (grp m1 i1 144) (grp m1 i1 160) (grp m1 i1 176) (grp m1 i1 192) (grp m1 i1 208) (grp m1 i1 224) (grp m1 i1 240) k'⌝ ∗ b1.view.loc (thr d L) ↦{fullShare} (chunk fx L (2 * k.val + 1)))) $$ [Hb1]
  case region =>
    intro k' acc
    iintro ⟨%e, H⟩
    subst e
    iapply (t5_step d L)
    iexact H
  · isplitr
    · ipureintro
      exact tup17 (row0 _) (load_m m1 128 _ _) (load_m m1 144 _ _) (load_m m1 160 _ _) (load_m m1 176 _ _) (load_m m1 192 _ _) (load_m m1 208 _ _) (load_m m1 224 _ _) (load_m m1 240 _ _) (load_i (F := F) i1 128 _ _) (load_i (F := F) i1 144 _ _) (load_i (F := F) i1 160 _ _) (load_i (F := F) i1 176 _ _) (load_i (F := F) i1 192 _ _) (load_i (F := F) i1 208 _ _) (load_i (F := F) i1 224 _ _) (load_i (F := F) i1 240 _ _)
    · iexact Hb1
  iintro %acc ⟨%t5e, Hb1⟩
  obtain ⟨r5, a8, a9, a10, a11, a12, a13, a14, a15, e8, e9, e10, e11, e12, e13, e14, e15⟩ := acc
  sl_exec (disch := exact View.amount_pos _ _ (show 0 < S128x256.numel by decide))
  sl_step
  have hb4 : k0_pay601 (trip_last.sl.v349 k) = fun _ => BitVec.ofNat 32 (2304 + 128 * (2 * k.val + 1)) := funext fun _ => rowbase' k
  have hb5 : k0_pay639 (trip_last.sl.v349 k) = fun _ => BitVec.ofNat 32 (2304 + 128 * (2 * k.val + 1)) := funext fun _ => rowbase' k
  ihave HmN := (name_it (fun f => (mV.view.loc (thr d L) ↦{fullShare} f : sProp 𝕄)) _) $$ Hm
  icases HmN with ⟨%m2, %hm2', Hm⟩
  have hm2 : m2 = scanF fx L (128 * ((2 * k.val + 1) + 1)) :=
    hm2'.trans (writes_m (F := F) _ (scanF fx L (128 * ((2 * k.val + 1) + 1))) _ _ _ _ _ _ _ _ _ _ _ _ _ _ _ _ _ _ _ _ _ _ _ _ _ _ _ _ _ _ _ _
      (fun x => (congrFun (shapeCast_self a0 _) x).trans ((congrFun (congrArg (fun p => p.2.1) t4e) x).trans (fold_scanF fx L (2 * k.val + 1) 0 (by decide) _ hb4 _ _ hm1 hi1 x)))
      (fun x => (congrFun (shapeCast_self a1 _) x).trans ((congrFun (congrArg (fun p => p.2.2.1) t4e) x).trans (fold_scanF fx L (2 * k.val + 1) 16 (by decide) _ hb4 _ _ hm1 hi1 x)))
      (fun x => (congrFun (shapeCast_self a2 _) x).trans ((congrFun (congrArg (fun p => p.2.2.2.1) t4e) x).trans (fold_scanF fx L (2 * k.val + 1) 32 (by decide) _ hb4 _ _ hm1 hi1 x)))
      (fun x => (congrFun (shapeCast_self a3 _) x).trans ((congrFun (congrArg (fun p => p.2.2.2.2.1) t4e) x).trans (fold_scanF fx L (2 * k.val + 1) 48 (by decide) _ hb4 _ _ hm1 hi1 x)))
      (fun x => (congrFun (shapeCast_self a4 _) x).trans ((congrFun (congrArg (fun p => p.2.2.2.2.2.1) t4e) x).trans (fold_scanF fx L (2 * k.val + 1) 64 (by decide) _ hb4 _ _ hm1 hi1 x)))
      (fun x => (congrFun (shapeCast_self a5 _) x).trans ((congrFun (congrArg (fun p => p.2.2.2.2.2.2.1) t4e) x).trans (fold_scanF fx L (2 * k.val + 1) 80 (by decide) _ hb4 _ _ hm1 hi1 x)))
      (fun x => (congrFun (shapeCast_self a6 _) x).trans ((congrFun (congrArg (fun p => p.2.2.2.2.2.2.2.1) t4e) x).trans (fold_scanF fx L (2 * k.val + 1) 96 (by decide) _ hb4 _ _ hm1 hi1 x)))
      (fun x => (congrFun (shapeCast_self a7 _) x).trans ((congrFun (congrArg (fun p => p.2.2.2.2.2.2.2.2.1) t4e) x).trans (fold_scanF fx L (2 * k.val + 1) 112 (by decide) _ hb4 _ _ hm1 hi1 x)))
      (fun x => (congrFun (shapeCast_self a8 _) x).trans ((congrFun (congrArg (fun p => p.2.1) t5e) x).trans (fold_scanF fx L (2 * k.val + 1) 128 (by decide) _ hb5 _ _ hm1 hi1 x)))
      (fun x => (congrFun (shapeCast_self a9 _) x).trans ((congrFun (congrArg (fun p => p.2.2.1) t5e) x).trans (fold_scanF fx L (2 * k.val + 1) 144 (by decide) _ hb5 _ _ hm1 hi1 x)))
      (fun x => (congrFun (shapeCast_self a10 _) x).trans ((congrFun (congrArg (fun p => p.2.2.2.1) t5e) x).trans (fold_scanF fx L (2 * k.val + 1) 160 (by decide) _ hb5 _ _ hm1 hi1 x)))
      (fun x => (congrFun (shapeCast_self a11 _) x).trans ((congrFun (congrArg (fun p => p.2.2.2.2.1) t5e) x).trans (fold_scanF fx L (2 * k.val + 1) 176 (by decide) _ hb5 _ _ hm1 hi1 x)))
      (fun x => (congrFun (shapeCast_self a12 _) x).trans ((congrFun (congrArg (fun p => p.2.2.2.2.2.1) t5e) x).trans (fold_scanF fx L (2 * k.val + 1) 192 (by decide) _ hb5 _ _ hm1 hi1 x)))
      (fun x => (congrFun (shapeCast_self a13 _) x).trans ((congrFun (congrArg (fun p => p.2.2.2.2.2.2.1) t5e) x).trans (fold_scanF fx L (2 * k.val + 1) 208 (by decide) _ hb5 _ _ hm1 hi1 x)))
      (fun x => (congrFun (shapeCast_self a14 _) x).trans ((congrFun (congrArg (fun p => p.2.2.2.2.2.2.2.1) t5e) x).trans (fold_scanF fx L (2 * k.val + 1) 224 (by decide) _ hb5 _ _ hm1 hi1 x)))
      (fun x => (congrFun (shapeCast_self a15 _) x).trans ((congrFun (congrArg (fun p => p.2.2.2.2.2.2.2.2.1) t5e) x).trans (fold_scanF fx L (2 * k.val + 1) 240 (by decide) _ hb5 _ _ hm1 hi1 x))))
  ihave HiN := (name_it (fun f => (mI.view.loc (thr d L) ↦{fullShare} f : sProp 𝕄)) _) $$ Hi
  icases HiN with ⟨%i2, %hi2', Hi⟩
  have hi2 : i2 = scanI fx L (128 * ((2 * k.val + 1) + 1)) :=
    hi2'.trans (writes_i (F := F) _ (scanI fx L (128 * ((2 * k.val + 1) + 1))) _ _ _ _ _ _ _ _ _ _ _ _ _ _ _ _ _ _ _ _ _ _ _ _ _ _ _ _ _ _ _ _
      (fun x => (congrFun (shapeCast_self e0 _) x).trans ((congrFun (congrArg (fun p => p.2.2.2.2.2.2.2.2.2.1) t4e) x).trans (fold_scanI fx L (2 * k.val + 1) 0 (by decide) _ hb4 _ _ hm1 hi1 x)))
      (fun x => (congrFun (shapeCast_self e1 _) x).trans ((congrFun (congrArg (fun p => p.2.2.2.2.2.2.2.2.2.2.1) t4e) x).trans (fold_scanI fx L (2 * k.val + 1) 16 (by decide) _ hb4 _ _ hm1 hi1 x)))
      (fun x => (congrFun (shapeCast_self e2 _) x).trans ((congrFun (congrArg (fun p => p.2.2.2.2.2.2.2.2.2.2.2.1) t4e) x).trans (fold_scanI fx L (2 * k.val + 1) 32 (by decide) _ hb4 _ _ hm1 hi1 x)))
      (fun x => (congrFun (shapeCast_self e3 _) x).trans ((congrFun (congrArg (fun p => p.2.2.2.2.2.2.2.2.2.2.2.2.1) t4e) x).trans (fold_scanI fx L (2 * k.val + 1) 48 (by decide) _ hb4 _ _ hm1 hi1 x)))
      (fun x => (congrFun (shapeCast_self e4 _) x).trans ((congrFun (congrArg (fun p => p.2.2.2.2.2.2.2.2.2.2.2.2.2.1) t4e) x).trans (fold_scanI fx L (2 * k.val + 1) 64 (by decide) _ hb4 _ _ hm1 hi1 x)))
      (fun x => (congrFun (shapeCast_self e5 _) x).trans ((congrFun (congrArg (fun p => p.2.2.2.2.2.2.2.2.2.2.2.2.2.2.1) t4e) x).trans (fold_scanI fx L (2 * k.val + 1) 80 (by decide) _ hb4 _ _ hm1 hi1 x)))
      (fun x => (congrFun (shapeCast_self e6 _) x).trans ((congrFun (congrArg (fun p => p.2.2.2.2.2.2.2.2.2.2.2.2.2.2.2.1) t4e) x).trans (fold_scanI fx L (2 * k.val + 1) 96 (by decide) _ hb4 _ _ hm1 hi1 x)))
      (fun x => (congrFun (shapeCast_self e7 _) x).trans ((congrFun (congrArg (fun p => p.2.2.2.2.2.2.2.2.2.2.2.2.2.2.2.2) t4e) x).trans (fold_scanI fx L (2 * k.val + 1) 112 (by decide) _ hb4 _ _ hm1 hi1 x)))
      (fun x => (congrFun (shapeCast_self e8 _) x).trans ((congrFun (congrArg (fun p => p.2.2.2.2.2.2.2.2.2.1) t5e) x).trans (fold_scanI fx L (2 * k.val + 1) 128 (by decide) _ hb5 _ _ hm1 hi1 x)))
      (fun x => (congrFun (shapeCast_self e9 _) x).trans ((congrFun (congrArg (fun p => p.2.2.2.2.2.2.2.2.2.2.1) t5e) x).trans (fold_scanI fx L (2 * k.val + 1) 144 (by decide) _ hb5 _ _ hm1 hi1 x)))
      (fun x => (congrFun (shapeCast_self e10 _) x).trans ((congrFun (congrArg (fun p => p.2.2.2.2.2.2.2.2.2.2.2.1) t5e) x).trans (fold_scanI fx L (2 * k.val + 1) 160 (by decide) _ hb5 _ _ hm1 hi1 x)))
      (fun x => (congrFun (shapeCast_self e11 _) x).trans ((congrFun (congrArg (fun p => p.2.2.2.2.2.2.2.2.2.2.2.2.1) t5e) x).trans (fold_scanI fx L (2 * k.val + 1) 176 (by decide) _ hb5 _ _ hm1 hi1 x)))
      (fun x => (congrFun (shapeCast_self e12 _) x).trans ((congrFun (congrArg (fun p => p.2.2.2.2.2.2.2.2.2.2.2.2.2.1) t5e) x).trans (fold_scanI fx L (2 * k.val + 1) 192 (by decide) _ hb5 _ _ hm1 hi1 x)))
      (fun x => (congrFun (shapeCast_self e13 _) x).trans ((congrFun (congrArg (fun p => p.2.2.2.2.2.2.2.2.2.2.2.2.2.2.1) t5e) x).trans (fold_scanI fx L (2 * k.val + 1) 208 (by decide) _ hb5 _ _ hm1 hi1 x)))
      (fun x => (congrFun (shapeCast_self e14 _) x).trans ((congrFun (congrArg (fun p => p.2.2.2.2.2.2.2.2.2.2.2.2.2.2.2.1) t5e) x).trans (fold_scanI fx L (2 * k.val + 1) 224 (by decide) _ hb5 _ _ hm1 hi1 x)))
      (fun x => (congrFun (shapeCast_self e15 _) x).trans ((congrFun (congrArg (fun p => p.2.2.2.2.2.2.2.2.2.2.2.2.2.2.2.2) t5e) x).trans (fold_scanI fx L (2 * k.val + 1) 240 (by decide) _ hb5 _ _ hm1 hi1 x))))
  have en : 256 * (k.val + 1) = 128 * ((2 * k.val + 1) + 1) := by omega
  rw [en]
  isplitl [Hmw]; · iexact Hmw
  isplitl [Hx1]; · iexact Hx1
  isplitl [Hb1]; · iexists _; iexact Hb1
  isplitl [Hs1]; · iexact Hs1
  isplitl [Hm]; · rw [← hm2]; iexact Hm
  isplitl [Hi]; · rw [← hi2]; iexact Hi
  isplitl [HF0 Hx0 HF0_dst]
  · rw [if_neg (by omega)]
    unfold idle
    isplitl [HF0]; · iexact HF0
    isplitl [Hx0]; · iexact Hx0
    iexists _; iexact HF0_dst
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    exact hW' p hp

end

end Cert.Argmin

end
-- ==== Proof.Tile.lean ====
/-
  The tile's whole body: the first copy, the seven trips, the two copies out.
-/
module

public import proofs.«01_k».proof.Proof.Cell
public import proofs.«01_k».proof.Proof.Scan2
public import proofs.«01_k».proof.Proof.Scan3
public import proofs.«01_k».proof.Proof.Scan4
public import proofs.«01_k».proof.Proof.Scan5
public import Idealize.ShloMosaic.Lib.ViewIndex
public import proofs.«01_k».proof.Proof.TripNext
public import proofs.«01_k».proof.Proof.TripLast

@[expose] public section

set_option maxRecDepth 16384

noncomputable section

namespace Cert.Argmin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 4000000
/-- Row `(b, c … c + 255)` of the two results as tile `L` slices it. -/
abbrev vRow (L : grid0.Coords) : Memref sig Kind.scVector Space.hbm S256 EltTy.f32 :=
  (vW.slice (Rect.unit (s := S4x2048) (k0_off37 L) S1x256.size (k0_off37_inb L)) (fun _ => rfl)).squeeze S256 squeezes_S1x256_S256
/-- The same of the array of rows. -/
abbrev iRow (L : grid0.Coords) : Memref sig Kind.scVector Space.hbm S256 EltTy.i32 :=
  (iW.slice (Rect.unit (s := S4x2048) (k0_off37 L) S1x256.size (k0_off37_inb L)) (fun _ => rfl)).squeeze S256 squeezes_S1x256_S256

/-- What the tiles leave in the two results: the scan of rows 2304 … 4095 of each column. -/
def outF (fx : S4x4096x2048.Idx → F .f32) : S4x2048.Idx → F .f32 := fun z => (cell (fun n => fx (at3 (z 0).val (2304 + n) (z 1).val)) 1792).1
/-- The rows that the tiles leave. -/
def outI (fx : S4x4096x2048.Idx → F .f32) : S4x2048.Idx → BitVec 32 := fun z => (cell (fun n => fx (at3 (z 0).val (2304 + n) (z 1).val)) 1792).2

/-- The finished row read back as tile `L` slices it. -/
theorem read_vRow (fx : S4x4096x2048.Idx → F .f32) (L : grid0.Coords) : (vRow L).view.read (Elt F) (outF (F := F) fx) = scanF (F := F) fx L 1792 := by
  funext y
  have h0 := bOf_lt L
  have h1 := cOf_le L
  have hy : (y 0).val < 256 := (y 0).isLt
  show shapeCast S256 ((vW.view.slice (Rect.unit (s := S4x2048) (k0_off37 L) S1x256.size (k0_off37_inb L))).read (Elt F) (outF (F := F) fx)) (show S1x256.ShapeCasts S256 by decide) y = _
  rw [shapeCast_dropUnit_apply ![256]]
  show (cell (fun n => fx (at3 (k0_off37 L 0 + 1 * 0) (2304 + n) (k0_off37 L 1 + 1 * (y 0).val))) 1792).1 = (cell (fun n => fx (at3 (bOf L) (2304 + n) (cOf L + (y 0).val))) 1792).1
  rw [off37_eq L, Nat.one_mul, Nat.one_mul]; rfl

/-- The row a tile copied out is the result's own. -/
theorem landed_vRow (d : Dev nD) (L : grid0.Coords) (fx : S4x4096x2048.Idx → F .f32) (f : Buf (Elt F) ((thr d L).loc main_v0_0_scv)) (w : S256.Idx → F .f32) (hw : w = scanF (F := F) fx L 1792) :
    ((vRow L).view.loc (thr d L) ↦[(vRow L).view.set]{fullShare} (vRow L).view.writes (Elt F) f [⟨Rect.whole S256, w⟩] : sProp 𝕄)
      ⊢ (vRow L).view.loc (thr d L) ↦[(vRow L).view.set]{fullShare} outF (F := F) fx := by
  refine Entails.of_eq (pointsTo_congr fun i hi => ?_)
  obtain ⟨x, _, rfl⟩ := Finset.mem_map.mp hi
  refine View.eq_of_read_eq (v := (vRow L).view) (Val := Elt F) (x := x) ?_
  rw [View.read_writes_whole, read_vRow, hw]

/-- The finished row read back as tile `L` slices it. -/
theorem read_iRow (fx : S4x4096x2048.Idx → F .f32) (L : grid0.Coords) : (iRow L).view.read (Elt F) (outI (F := F) fx) = scanI (F := F) fx L 1792 := by
  funext y
  have h0 := bOf_lt L
  have h1 := cOf_le L
  have hy : (y 0).val < 256 := (y 0).isLt
  show shapeCast S256 ((iW.view.slice (Rect.unit (s := S4x2048) (k0_off37 L) S1x256.size (k0_off37_inb L))).read (Elt F) (outI (F := F) fx)) (show S1x256.ShapeCasts S256 by decide) y = _
  rw [shapeCast_dropUnit_apply ![256]]
  show (cell (fun n => fx (at3 (k0_off37 L 0 + 1 * 0) (2304 + n) (k0_off37 L 1 + 1 * (y 0).val))) 1792).2 = (cell (fun n => fx (at3 (bOf L) (2304 + n) (cOf L + (y 0).val))) 1792).2
  rw [off37_eq L, Nat.one_mul, Nat.one_mul]; rfl

/-- The row a tile copied out is the result's own. -/
theorem landed_iRow (d : Dev nD) (L : grid0.Coords) (fx : S4x4096x2048.Idx → F .f32) (f : Buf (Elt F) ((thr d L).loc main_v0_1_scv)) (w : S256.Idx → BitVec 32) (hw : w = scanI (F := F) fx L 1792) :
    ((iRow L).view.loc (thr d L) ↦[(iRow L).view.set]{fullShare} (iRow L).view.writes (Elt F) f [⟨Rect.whole S256, w⟩] : sProp 𝕄)
      ⊢ (iRow L).view.loc (thr d L) ↦[(iRow L).view.set]{fullShare} outI (F := F) fx := by
  refine Entails.of_eq (pointsTo_congr fun i hi => ?_)
  obtain ⟨x, _, rfl⟩ := Finset.mem_map.mp hi
  refine View.eq_of_read_eq (v := (iRow L).view) (Val := Elt F) (x := x) ?_
  rw [View.read_writes_whole, read_iRow, hw]

section
variable (d : Dev nD) (L : grid0.Coords)

/-- A tile's run. -/
theorem tile_run (fx : Buf (Elt F) ((thr d L).loc main_arg0_scv)) (q : PosShare TreeShare) (O : CellTallies nD τ sig (HIx 1)) (W : Waits sig (HIx 1))
    (fv : Buf (Elt F) ((thr d L).loc main_v0_0_scv)) (fi : Buf (Elt F) ((thr d L).loc main_v0_1_scv)) :
    (iprop(Transfers.MayWaits (thr d L) (none : HIx 1) O
      ∗ (xW.view.loc (thr d L) ↦{Transfers.shareTokN q 0} fx) ∗ (xW.view.loc (thr d L) ↦{Transfers.shareTokN q 1} fx)
      ∗ ((vRow L).view.loc (thr d L) ↦[(vRow L).view.set]{fullShare} fv) ∗ ((iRow L).view.loc (thr d L) ↦[(iRow L).view.set]{fullShare} fi)
      ∗ (∃ f, b0.view.loc (thr d L) ↦{fullShare} f) ∗ (∃ f, b1.view.loc (thr d L) ↦{fullShare} f)
      ∗ (∃ f, mV.view.loc (thr d L) ↦{fullShare} f) ∗ (∃ f, mI.view.loc (thr d L) ↦{fullShare} f)
      ∗ semVal (thr d L, SemLoc.dma cc0_scratch4.sem) 0 ∗ semVal (thr d L, SemLoc.dma cc0_scratch5.sem) 0
      ∗ semVal (thr d L, SemLoc.dma cc0_scoped0.sem) 0 ∗ semVal (thr d L, SemLoc.dma cc0_scoped1.sem) 0
      ∗ owes (thr d L) O W) : sProp 𝕄)
    ⊢ wp frame (wpE (defs₀ (F := F)) 𝒱₀ (thr d L) none) Set.univ (cc0__argmin_sc (F := F) L xW (Memref.isWhole_whole _) vW (Memref.isWhole_whole _) iW (Memref.isWhole_whole _) b0 (Memref.isWhole_whole _) b1 (Memref.isWhole_whole _) mV (Memref.isWhole_whole _) mI (Memref.isWhole_whole _) cc0_scratch4 cc0_scratch5 cc0_scoped0 cc0_scoped1)
        fun _ => iprop((xW.view.loc (thr d L) ↦{Transfers.shareTokN q 0} fx) ∗ (xW.view.loc (thr d L) ↦{Transfers.shareTokN q 1} fx)
          ∗ ((vRow L).view.loc (thr d L) ↦[(vRow L).view.set]{fullShare} outF (F := F) fx) ∗ ((iRow L).view.loc (thr d L) ↦[(iRow L).view.set]{fullShare} outI (F := F) fx)
          ∗ (∃ f, b0.view.loc (thr d L) ↦{fullShare} f) ∗ (∃ f, b1.view.loc (thr d L) ↦{fullShare} f)
          ∗ (∃ f, mV.view.loc (thr d L) ↦{fullShare} f) ∗ (∃ f, mI.view.loc (thr d L) ↦{fullShare} f)
          ∗ semVal (thr d L, SemLoc.dma cc0_scratch4.sem) 0 ∗ semVal (thr d L, SemLoc.dma cc0_scratch5.sem) 0
          ∗ semVal (thr d L, SemLoc.dma cc0_scoped0.sem) 0 ∗ semVal (thr d L, SemLoc.dma cc0_scoped1.sem) 0
          ∗ ∃ W', ⌜∀ p ∈ W', p ∈ W ∨ p.2 = none⌝ ∗ owes (thr d L) O W') := by
  iintro ⟨Hmw, Hx0, Hx1, Hv, Hw, ⟨%f0, Hb0⟩, ⟨%f1, Hb1⟩, ⟨%fm, Hm⟩, ⟨%fj, Hi⟩, Hs0, Hs1, Ht0, Ht1, HO⟩
  sl_exec (disch := exact View.amount_pos _ _ (show 0 < S128x256.numel by decide))
  ihave HmN := (name_it (fun f => (mV.view.loc (thr d L) ↦{fullShare} f : sProp 𝕄)) _) $$ Hm
  icases HmN with ⟨%cHm, %eHm, Hm⟩
  have eHm' : cHm = scanF fx L (256 * 0) :=
    eHm.trans (writes_m (F := F) _ (scanF fx L (256 * 0)) _ _ _ _ _ _ _ _ _ _ _ _ _ _ _ _ _ _ _ _ _ _ _ _ _ _ _ _ _ _ _ _ (by intro _; rfl) (by intro _; rfl) (by intro _; rfl) (by intro _; rfl) (by intro _; rfl) (by intro _; rfl) (by intro _; rfl) (by intro _; rfl) (by intro _; rfl) (by intro _; rfl) (by intro _; rfl) (by intro _; rfl) (by intro _; rfl) (by intro _; rfl) (by intro _; rfl) (by intro _; rfl) )
  rw [eHm']
  ihave HiN := (name_it (fun f => (mI.view.loc (thr d L) ↦{fullShare} f : sProp 𝕄)) _) $$ Hi
  icases HiN with ⟨%cHi, %eHi, Hi⟩
  have eHi' : cHi = scanI fx L (256 * 0) :=
    eHi.trans (writes_i (F := F) _ (scanI fx L (256 * 0)) _ _ _ _ _ _ _ _ _ _ _ _ _ _ _ _ _ _ _ _ _ _ _ _ _ _ _ _ _ _ _ _ (by intro _; rfl) (by intro _; rfl) (by intro _; rfl) (by intro _; rfl) (by intro _; rfl) (by intro _; rfl) (by intro _; rfl) (by intro _; rfl) (by intro _; rfl) (by intro _; rfl) (by intro _; rfl) (by intro _; rfl) (by intro _; rfl) (by intro _; rfl) (by intro _; rfl) (by intro _; rfl) )
  rw [eHi']
  sl_for (fun k _ => inv (F := F) d L fx q O W k) $$ [Hmw Hx1 Hb1 Hs1 Hm Hi Hs0 Hx0 HO]
  case region =>
    intro k acc
    by_cases hk : k.val < 6
    · exact trip_next d L fx q O W k hk _ _ acc
    · exact trip_last d L fx q O W k hk _ _ acc
  · unfold inv
    isplitl [Hmw]; · iexact Hmw
    isplitl [Hx1]; · iexact Hx1
    isplitl [Hb1]; · iexists _; iexact Hb1
    isplitl [Hs1]; · iexact Hs1
    isplitl [Hm]; · iexact Hm
    isplitl [Hi]; · iexact Hi
    isplitl [Hs0 Hx0]
    · rw [if_pos (by omega)]
      unfold inflight
      iexists ((xW.slice (Rect.unit (s := S4x4096x2048) (k0_off1 L) S1x128x256.size (k0_off1_inb L)) (fun _ => rfl)).squeeze S128x256 squeezes_S1x128x256_S128x256).view.set
      isplitl [Hs0]
      · iapply (Transfers.Flight_mono (countersEmb : UEmb Counters 𝕄) (thr d L) (sep_mono_left (landed0 d L _ (tile_run.sl.dma64 d L fx) (chunk fx L (2 * 0))
          (read_chunk fx L (2 * 0) (k0_off1 L) _ (off1_eq L) _ _))))
        iexact Hs0
      · iexact Hx0
    iexists W; isplitr
    · ipureintro; intro p hp; exact .inl hp
    · iexact HO
  iintro %acc Hinv
  rw [show Scf.trips k0_t1_loop.lb k0_t1_loop.ub k0_t1_loop.st = 7 by decide +kernel]
  unfold inv
  rw [if_neg (by omega)]
  unfold idle
  icases Hinv with ⟨Hmw, Hx1, ⟨%f1', Hb1⟩, Hs1, Hm, Hi, ⟨Hs0, Hx0, ⟨%f0', Hb0⟩⟩, %W', %hW', HO⟩
  sl_exec (disch := exact View.amount_pos _ _ (show 0 < S256.numel by decide))
  sl_step
  isplitl [Hx0]; · iexact Hx0
  isplitl [Hx1]; · iexact Hx1
  isplitl [Hv]; · iapply (landed_vRow d L fx fv _ rfl); iexact Hv
  isplitl [Hw]; · iapply (landed_iRow d L fx fi _ rfl); iexact Hw
  isplitl [Hb0]; · iexists _; iexact Hb0
  isplitl [Hb1]; · iexists _; iexact Hb1
  isplitl [Hm]; · iexists _; iexact Hm
  isplitl [Hi]; · iexists _; iexact Hi
  isplitl [Hs0]; · iexact Hs0
  isplitl [Hs1]; · iexact Hs1
  isplitl [Ht0]; · iexact Ht0
  isplitl [Ht1]; · iexact Ht1
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    exact hW' p hp
end
end Cert.Argmin

end
-- ==== Proof.Task.lean ====
/-
  A tile's task in the launch: its read share of the operand and its segments of the two results.
-/
module

public import proofs.«01_k».proof.Proof.Tile

@[expose] public section

set_option maxRecDepth 16384

noncomputable section

namespace Cert.Argmin

open Cert.KernelIdeal Cert.KernelIdeal.Gen

open Idealize.ShloMosaic
open Idealize.ShloMosaic.SparseCore (S V T)
open Idealize.ShloMosaic.SparseCore.Cfg (HIx Pay ownCells ownRefs mem_ownCells ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a tile owns -/

section
variable (d : Dev nD) (L : grid0.Coords)

/-- The kernel's four semaphores are among the tile's own. -/
theorem ownSems0_V : (ownSems0 (thr d L) : sProp 𝕄)
    = iprop(semVal (thr d L, SemLoc.dma cc0_scratch4.sem) 0 ∗ semVal (thr d L, SemLoc.dma cc0_scratch5.sem) 0 ∗ semVal (thr d L, SemLoc.dma cc0_scoped0.sem) 0 ∗ semVal (thr d L, SemLoc.dma cc0_scoped1.sem) 0
        ∗ bigSep (((((ownCells (thr d L)).erase (thr d L, SemLoc.dma cc0_scratch4.sem)).erase (thr d L, SemLoc.dma cc0_scratch5.sem)).erase (thr d L, SemLoc.dma cc0_scoped0.sem)).erase (thr d L, SemLoc.dma cc0_scoped1.sem)) fun g => semVal g 0) := by
  unfold SparseCore.Cfg.ownSems0
  rw [SparseCore.bigSep_erase' ((mem_ownCells (g := (thr d L, SemLoc.dma cc0_scratch4.sem))).mpr ⟨rfl, show (SemLoc.dma cc0_scratch4.sem : SemLoc sig).isScoped .scVector = true by decide⟩), SparseCore.bigSep_erase' (Finset.mem_erase.mpr ⟨fun e => absurd (Prod.mk.inj e).2 (show (SemLoc.dma cc0_scratch5.sem : SemLoc sig) ≠ SemLoc.dma cc0_scratch4.sem by decide), (mem_ownCells (g := (thr d L, SemLoc.dma cc0_scratch5.sem))).mpr ⟨rfl, show (SemLoc.dma cc0_scratch5.sem : SemLoc sig).isScoped .scVector = true by decide⟩⟩), SparseCore.bigSep_erase' (Finset.mem_erase.mpr ⟨fun e => absurd (Prod.mk.inj e).2 (show (SemLoc.dma cc0_scoped0.sem : SemLoc sig) ≠ SemLoc.dma cc0_scratch5.sem by decide), Finset.mem_erase.mpr ⟨fun e => absurd (Prod.mk.inj e).2 (show (SemLoc.dma cc0_scoped0.sem : SemLoc sig) ≠ SemLoc.dma cc0_scratch4.sem by decide), (mem_ownCells (g := (thr d L, SemLoc.dma cc0_scoped0.sem))).mpr ⟨rfl, show (SemLoc.dma cc0_scoped0.sem : SemLoc sig).isScoped .scVector = true by decide⟩⟩⟩), SparseCore.bigSep_erase' (Finset.mem_erase.mpr ⟨fun e => absurd (Prod.mk.inj e).2 (show (SemLoc.dma cc0_scoped1.sem : SemLoc sig) ≠ SemLoc.dma cc0_scoped0.sem by decide), Finset.mem_erase.mpr ⟨fun e => absurd (Prod.mk.inj e).2 (show (SemLoc.dma cc0_scoped1.sem : SemLoc sig) ≠ SemLoc.dma cc0_scratch5.sem by decide), Finset.mem_erase.mpr ⟨fun e => absurd (Prod.mk.inj e).2 (show (SemLoc.dma cc0_scoped1.sem : SemLoc sig) ≠ SemLoc.dma cc0_scratch4.sem by decide), (mem_ownCells (g := (thr d L, SemLoc.dma cc0_scoped1.sem))).mpr ⟨rfl, show (SemLoc.dma cc0_scoped1.sem : SemLoc sig).isScoped .scVector = true by decide⟩⟩⟩⟩)]

/-- The four scratch buffers are among the tile's own, each at some contents. -/
theorem ownBufs_V : (ownBufs (thr d L) : sProp 𝕄)
    = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
        ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩), SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩), SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

end

/-! ## The result rows the tiles share out -/

/-- Tile `L`'s row segment. -/
abbrev seg (L : grid0.Coords) : Finset S4x2048.Idx := (Rect.unit (s := S4x2048) (k0_off37 L) S1x256.size (k0_off37_inb L)).set

/-- The tile's part of the minima is its segment. -/
theorem set_vRow (L : grid0.Coords) : (vRow L).view.set = seg L := by
  show ((vW.view.slice (Rect.unit (s := S4x2048) (k0_off37 L) S1x256.size (k0_off37_inb L))).reshape S256 squeezes_S1x256_S256.numel_eq).set = _
  rw [View.set_reshape, View.set_slice]; exact Finset.map_refl

/-- The tile's part of the rows is its segment. -/
theorem set_iRow (L : grid0.Coords) : (iRow L).view.set = seg L := by
  show ((iW.view.slice (Rect.unit (s := S4x2048) (k0_off37 L) S1x256.size (k0_off37_inb L))).reshape S256 squeezes_S1x256_S256.numel_eq).set = _
  rw [View.set_reshape, View.set_slice]; exact Finset.map_refl

/-- The entries of a tile's segment: its batch, its 256 columns. -/
theorem mem_seg (L : grid0.Coords) (z : S4x2048.Idx) : z ∈ seg L ↔ (z 0).val = bOf L ∧ cOf L ≤ (z 1).val ∧ (z 1).val < cOf L + 256 := by
  refine Rect.mem_set_unit.trans ?_
  rw [off37_eq L]
  constructor
  · intro h
    have h0 : bOf L ≤ (z 0).val ∧ (z 0).val < bOf L + 1 := h 0
    have h1 : cOf L ≤ (z 1).val ∧ (z 1).val < cOf L + 256 := h 1
    omega
  · rintro ⟨h0, h1, h2⟩ a
    match a with
    | 0 => exact show bOf L ≤ (z 0).val ∧ (z 0).val < bOf L + 1 by omega
    | 1 => exact show cOf L ≤ (z 1).val ∧ (z 1).val < cOf L + 256 from ⟨h1, h2⟩

/-- The grid point of task `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))
/-- The grid point of tile `t`. -/
abbrev pt (t : Fin 2 × Fin 16) : grid0.Coords := coordsV t.1 t.2

/-- Two tiles' segments have no entry in common. -/
theorem seg_disjoint : ∀ t ∈ (Finset.univ : Finset (Fin 2 × Fin 16)), ∀ t' ∈ (Finset.univ : Finset (Fin 2 × Fin 16)), t ≠ t' → Disjoint (seg (pt t)) (seg (pt t')) := by
  intro t _ t' _ hne
  refine Finset.disjoint_left.mpr fun z h h' => hne ?_
  rw [mem_seg] at h h'
  have e : ∀ t : Fin 2 × Fin 16, bOf (pt t) = (2 * t.2.val + t.1.val) / 8 ∧ cOf (pt t) = (2 * t.2.val + t.1.val) % 8 * 256 := fun _ => ⟨rfl, rfl⟩
  rw [(e t).1, (e t).2] at h
  rw [(e t').1, (e t').2] at h'
  have := t.1.isLt; have := t'.1.isLt
  exact Prod.ext (Fin.ext (by omega)) (Fin.ext (by omega))

/-- Every entry is in some tile's segment. -/
theorem seg_cover : (Finset.univ : Finset (Fin 2 × Fin 16)).biUnion (fun t => seg (pt t)) = Finset.univ := by
  refine Finset.eq_univ_of_forall fun z => ?_
  have h0 : (z 0).val < 4 := (z 0).isLt
  have h1 : (z 1).val < 2048 := (z 1).isLt
  refine Finset.mem_biUnion.mpr ⟨(⟨(8 * (z 0).val + (z 1).val / 256) % 2, by omega⟩, ⟨(8 * (z 0).val + (z 1).val / 256) / 2, by omega⟩), Finset.mem_univ _, ?_⟩
  rw [mem_seg]
  show (z 0).val = (2 * ((8 * (z 0).val + (z 1).val / 256) / 2) + (8 * (z 0).val + (z 1).val / 256) % 2) / 8
    ∧ (2 * ((8 * (z 0).val + (z 1).val / 256) / 2) + (8 * (z 0).val + (z 1).val / 256) % 2) % 8 * 256 ≤ (z 1).val
    ∧ (z 1).val < (2 * ((8 * (z 0).val + (z 1).val / 256) / 2) + (8 * (z 0).val + (z 1).val / 256) % 2) % 8 * 256 + 256
  omega

/-! ## What the launch hands out and takes back -/

variable (m : (ℓ : Loc nD τ sig) → Buf (Elt F) ℓ)

/-- The operand and the call's two results, as locations of device `d`. -/
abbrev xLoc (d : Dev nD) : Loc nD τ sig := (SparseCore.T d).loc main_arg0
/-- The SparseCore's minima, as a location of device `d`. -/
abbrev vLoc (d : Dev nD) : Loc nD τ sig := (SparseCore.T d).loc main_v0_0
/-- The SparseCore's rows, as a location of device `d`. -/
abbrev iLoc (d : Dev nD) : Loc nD τ sig := (SparseCore.T d).loc main_v0_1

/-- Tile `t`'s read share of the operand: of its SparseCore's read share of it. -/
abbrev qc (c : Fin 2) : PosShare TreeShare := Transfers.shareTokN fullShare c.val
/-- Tile `t`'s read share of the operand. -/
abbrev qt (t : Fin 2 × Fin 16) : PosShare TreeShare := Transfers.shareTokN (qc t.1) t.2.val

/-- Tile `t`'s segments of the two results, at contents `f` and `g`. -/
abbrev segs (d : Dev nD) (t : Fin 2 × Fin 16) (f : Buf (Elt F) (vLoc d)) (g : Buf (Elt F) (iLoc d)) : sProp 𝕄 :=
  iprop((vLoc d ↦[seg (pt t)]{fullShare} f) ∗ iLoc d ↦[seg (pt t)]{fullShare} g)

/-- The minima that the tiles leave. -/
abbrev vOut (d : Dev nD) : Buf (Elt F) (vLoc d) := outF (F := F) (m (xLoc d))
/-- The rows that the tiles leave. -/
abbrev iOut (d : Dev nD) : Buf (Elt F) (iLoc d) := outI (F := F) (m (xLoc d))

/-- The call runs on two SparseCores. -/
theorem nCore_zero : (K (F := F)).nCore 0 = 2 := rfl

/-- The call runs on sixteen tiles of each. -/
theorem nSub_zero : (K (F := F)).nSub 0 = 16 := rfl

/-- A SparseCore gets a read share of the operand and its sixteen tiles' row segments; a tile a read share of that and its own segment. -/
def P : (K (F := F)).Pay (nD := nD) (Val := Elt F) (Name := ℕ) (U := UU) where
  st := fun q d c => match q with
    | 0 => iprop((xLoc d ↦{qc (Fin.cast nCore_zero c)} m (xLoc d)) ∗ bigSep Finset.univ fun i : Fin 16 => segs d (Fin.cast nCore_zero c, i) (m (vLoc d)) (m (iLoc d)))
  dn := fun q d c => match q with
    | 0 => iprop((xLoc d ↦{qc (Fin.cast nCore_zero c)} m (xLoc d)) ∗ bigSep Finset.univ fun i : Fin 16 => segs d (Fin.cast nCore_zero c, i) (vOut m d) (iOut m d))
  go := fun q d c i => match q with
    | 0 => iprop((xLoc d ↦{qt (Fin.cast nCore_zero c, Fin.cast nSub_zero i)} m (xLoc d)) ∗ segs d (Fin.cast nCore_zero c, Fin.cast nSub_zero i) (m (vLoc d)) (m (iLoc d)))
  td := fun q d c i => match q with
    | 0 => iprop((xLoc d ↦{qt (Fin.cast nCore_zero c, Fin.cast nSub_zero i)} m (xLoc d)) ∗ segs d (Fin.cast nCore_zero c, Fin.cast nSub_zero i) (vOut m d) (iOut m d))
  x := fun _ _ => iprop(emp)

/-- What the handshakes carry can be kept in their cells. -/
instance P_storable : (P (F := F) m).IsStorable where
  st q d c := match q with
    | 0 => (inferInstance : BI.Storable (upEmb : UEmb _ 𝕄) iprop((xLoc d ↦{qc (Fin.cast nCore_zero c)} m (xLoc d)) ∗ bigSep Finset.univ fun i : Fin 16 => segs d (Fin.cast nCore_zero c, i) (m (vLoc d)) (m (iLoc d))))
  dn q d c := match q with
    | 0 => (inferInstance : BI.Storable (upEmb : UEmb _ 𝕄) iprop((xLoc d ↦{qc (Fin.cast nCore_zero c)} m (xLoc d)) ∗ bigSep Finset.univ fun i : Fin 16 => segs d (Fin.cast nCore_zero c, i) (vOut m d) (iOut m d)))
  go q d c i := match q with
    | 0 => (inferInstance : BI.Storable (upEmb : UEmb _ 𝕄) iprop((xLoc d ↦{qt (Fin.cast nCore_zero c, Fin.cast nSub_zero i)} m (xLoc d)) ∗ segs d (Fin.cast nCore_zero c, Fin.cast nSub_zero i) (m (vLoc d)) (m (iLoc d))))
  td q d c i := match q with
    | 0 => (inferInstance : BI.Storable (upEmb : UEmb _ 𝕄) iprop((xLoc d ↦{qt (Fin.cast nCore_zero c, Fin.cast nSub_zero i)} m (xLoc d)) ∗ segs d (Fin.cast nCore_zero c, Fin.cast nSub_zero i) (vOut m d) (iOut m d)))

/-! ## The task -/

/-- A share of the operand, split into two read shares and the rest. -/
theorem xToks (d : Dev nD) (q : PosShare TreeShare) (f : Buf (Elt F) (xLoc d)) :
    (xLoc d ↦{q} f : sProp 𝕄) ⊣⊢ iprop((xLoc d ↦{Transfers.shareDrop q 2} f) ∗ (xLoc d ↦{Transfers.shareTokN q 0} f) ∗ (xLoc d ↦{Transfers.shareTokN q 1} f)) := by
  have h : (xLoc d ↦{q} f : sProp 𝕄) ⊣⊢ iprop((xLoc d ↦{Transfers.shareDrop q 2} f) ∗ bigSep (Finset.range 2) fun i => xLoc d ↦{Transfers.shareTokN q i} f) :=
    Transfers.pointsTo_toks_range (ℓ := xLoc d) (S := Finset.univ) (f := f) q 2
  rw [show Finset.range 2 = {0, 1} by decide, SparseCore.bigSep_insert' (by decide), bigSep_singleton] at h
  exact h

/-- The task on tile `t` of device `d`, from what the launch deals it to what it hands back. -/
theorem tile_body (hF : (K (F := F)).Facts) (d : Dev nD) (t : Fin 2 × Fin 16) (O : CellTallies nD τ sig (HIx 1)) (W : Waits sig (HIx 1)) (hO : ∀ g, O g none = 0) :
    (iprop(levAts (K (F := F)).L (K (F := F)).lev ∗ emp
        ∗ ((xLoc d ↦{qt t} m (xLoc d)) ∗ segs d t (m (vLoc d)) (m (iLoc d)))
        ∗ scopedBufs (thr d (pt t)) ∗ scopedSems0 (thr d (pt t)) ∗ owes (thr d (pt t)) O W) : sProp 𝕄)
      ⊢ wp frame (wpE (defs₀ (F := F)) 𝒱₀ (thr d (pt t)) none) Set.univ
          (cc0__argmin_sc (F := F) (pt t) xW (Memref.isWhole_whole _) vW (Memref.isWhole_whole _) iW (Memref.isWhole_whole _) b0 (Memref.isWhole_whole _) b1 (Memref.isWhole_whole _) mV (Memref.isWhole_whole _) mI (Memref.isWhole_whole _) cc0_scratch4 cc0_scratch5 cc0_scoped0 cc0_scoped1)
          fun _ => iprop(((xLoc d ↦{qt t} m (xLoc d)) ∗ segs d t (vOut m d) (iOut m d))
            ∗ scopedBufs (thr d (pt t)) ∗ scopedSems0 (thr d (pt t))
            ∗ ∃ W', ⌜∀ p ∈ W', p ∈ W ∨ p.2 = none⌝ ∗ owes (thr d (pt t)) O W') := by
  rw [(K (F := F)).scopedBufs_V hF d (cV (pt t)) (jV (pt t)), SparseCore.Cfg.scopedSems0_V (Val := Elt F) d (cV (pt t)) (jV (pt t)), ownSems0_V, ownBufs_V]
  iintro ⟨#Hlv, -, ⟨Hx, Hv, Hi⟩, ⟨H0, H1, H2, H3, Hbufs⟩, ⟨S0, S1, S2, S3, Hsems⟩, HO⟩
  ihave Hmw := (show levAts (K (F := F)).L (K (F := F)).lev ⊢ Transfers.MayWaits (thr d (pt t)) (none : HIx 1) O from
    (K (F := F)).mayWaits_none (thr := thr d (pt t)) hO) $$ Hlv
  ihave Hx' := (xToks d (qt t) (m (xLoc d))).1 $$ Hx
  icases Hx' with ⟨Hxr, Hx0, Hx1⟩
  iapply (wp_wand_r Idealize.ShloMosaic.frame (wpE (defs₀ (F := F)) 𝒱₀ (thr d (pt t)) none) Set.univ)
  isplitl [Hx0 Hx1 Hv Hi H0 H1 H2 H3 S0 S1 S2 S3 HO]
  · iapply (tile_run d (pt t) (m (xLoc d)) (qt t) O W (m (vLoc d)) (m (iLoc d)))
    isplitr; · iexact Hmw
    isplitl [Hx0]; · iexact Hx0
    isplitl [Hx1]; · iexact Hx1
    isplitl [Hv]; · rw [set_vRow]; iexact Hv
    isplitl [Hi]; · rw [set_iRow]; iexact Hi
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    iexact HO
  rw [set_vRow, set_iRow]
  iintro %_ ⟨Hx0, Hx1, Hv, Hi, H0, H1, H2, H3, S0, S1, S2, S3, HO⟩
  ihave Hx := (xToks d (qt t) (m (xLoc d))).2 $$ [Hxr Hx0 Hx1]
  · isplitl [Hxr]; · iexact Hxr
    isplitl [Hx0]; · iexact Hx0
    iexact Hx1
  isplitl [Hx Hv Hi]
  · isplitl [Hx]; · iexact Hx
    isplitl [Hv]; · iexact Hv
    iexact Hi
  isplitl [H0 H1 H2 H3 Hbufs]
  · isplitl [H0]; · iexact H0
    isplitl [H1]; · iexact H1
    isplitl [H2]; · iexact H2
    isplitl [H3]; · iexact H3
    iexact Hbufs
  isplitl [S0 S1 S2 S3 Hsems]
  · isplitl [S0]; · iexact S0
    isplitl [S1]; · iexact S1
    isplitl [S2]; · iexact S2
    isplitl [S3]; · iexact S3
    iexact Hsems
  iexact HO

/-! ## The launch theorem's obligations -/

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The function that a tile runs is the kernel's body at its grid point. -/
theorem defs₀_vector (c : Fin τ.nSC) (s : Fin τ.nSub) :
    defs₀ (F := F) (.scVector c s) 0 ()
      = SparseCore.onTile hcore0 hsub0 (fun c s => cc0__argmin_sc (F := F) (coordsV c s) xW (Memref.isWhole_whole _) vW (Memref.isWhole_whole _) iW (Memref.isWhole_whole _) b0 (Memref.isWhole_whole _) b1 (Memref.isWhole_whole _) mV (Memref.isWhole_whole _) mI (Memref.isWhole_whole _) cc0_scratch4 cc0_scratch5 cc0_scoped0 cc0_scoped1) ⟨⟩ c s := rfl

/-- The waits recorded in the task, as the launch asks for them. -/
theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, as the launch theorem asks for it. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF d (⟨_, hc.1⟩, ⟨_, hc.2⟩) O W hO).trans (wp_mono frame _ _ fun _ => obl_post)

/-- A SparseCore's read share dealt to its sixteen tiles, the rest kept until they hand theirs back. -/
theorem xDeal (d : Dev nD) (q : PosShare TreeShare) (f : Buf (Elt F) (xLoc d)) (n : ℕ) :
    (xLoc d ↦{q} f : sProp 𝕄) ⊣⊢ iprop((xLoc d ↦{Transfers.shareDrop q n} f) ∗ bigSep Finset.univ fun i : Fin n => xLoc d ↦{Transfers.shareTokN q i.val} f) := by
  have h := Transfers.pointsTo_toks_range (Ix := HIx 1) (Name := ℕ) (U := UU) (Lvl := ℕ) (Val := Elt F) (ℓ := xLoc d) (S := Finset.univ) (f := f) q n
  rwa [show Finset.range n = (Finset.univ : Finset (Fin n)).map Fin.valEmbedding from (Fin.map_valEmbedding_univ.trans (Nat.Iio_eq_range n)).symm, bigSep_map] at h

/-- The call's tiles, over the plain numbers 0 to 15. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's SparseCores, over the plain numbers 0 and 1. -/
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- What a SparseCore is sent is dealt to its sixteen tiles, and what they hand back is put together again. -/
theorem vecSplit : (K (F := F)).VecSplit' (P m) 0 := by
  intro d c
  show iprop((xLoc d ↦{qc (Fin.cast nCore_zero c)} m (xLoc d)) ∗ bigSep Finset.univ fun i : Fin 16 => segs d (Fin.cast nCore_zero c, i) (m (vLoc d)) (m (iLoc d))) ⊢ |={Set.univ}=> iprop(
      (bigSep Finset.univ fun i : Fin ((K (F := F)).nSub 0) =>
        iprop((xLoc d ↦{qt (Fin.cast nCore_zero c, Fin.cast nSub_zero i)} m (xLoc d)) ∗ segs d (Fin.cast nCore_zero c, Fin.cast nSub_zero i) (m (vLoc d)) (m (iLoc d))))
      ∗ ((bigSep Finset.univ fun i : Fin ((K (F := F)).nSub 0) =>
          iprop((xLoc d ↦{qt (Fin.cast nCore_zero c, Fin.cast nSub_zero i)} m (xLoc d)) ∗ segs d (Fin.cast nCore_zero c, Fin.cast nSub_zero i) (vOut m d) (iOut m d)))
          -∗ iprop((xLoc d ↦{qc (Fin.cast nCore_zero c)} m (xLoc d)) ∗ bigSep Finset.univ fun i : Fin 16 => segs d (Fin.cast nCore_zero c, i) (vOut m d) (iOut m d))))
  rw [bigSep_tasks (F := F) (fun i => iprop((xLoc d ↦{qt (Fin.cast nCore_zero c, i)} m (xLoc d)) ∗ segs d (Fin.cast nCore_zero c, i) (m (vLoc d)) (m (iLoc d)))),
    bigSep_tasks (F := F) (fun i => iprop((xLoc d ↦{qt (Fin.cast nCore_zero c, i)} m (xLoc d)) ∗ segs d (Fin.cast nCore_zero c, i) (vOut m d) (iOut m d))),
    bigSep_sep' Finset.univ (fun i : Fin 16 => (xLoc d ↦{qt (Fin.cast nCore_zero c, i)} m (xLoc d) : sProp 𝕄)), bigSep_sep' Finset.univ (fun i : Fin 16 => (xLoc d ↦{qt (Fin.cast nCore_zero c, i)} m (xLoc d) : sProp 𝕄))]
  iintro ⟨Hx, Hs⟩
  ihave Hx' := (xDeal d (qc (Fin.cast nCore_zero c)) (m (xLoc d)) 16).1 $$ Hx
  icases Hx' with ⟨Hr, Ht⟩
  imodintro
  isplitl [Ht Hs]
  · isplitl [Ht]; · iexact Ht
    iexact Hs
  iintro ⟨Ht, Hs⟩
  isplitl [Hr Ht]
  · iapply (xDeal d (qc (Fin.cast nCore_zero c)) (m (xLoc d)) 16).2
    isplitl [Hr]; · iexact Hr
    iexact Ht
  iexact Hs

end Cert.Argmin

end
-- ==== Proof.Tc.lean ====
/-
  The TensorCore kernel, one point of its grid at a time: the body run in its two cases (the first block of rows
  initialises the running minimum, a later one merges into it), and the running minimum and its index after each point.
-/
module

public import proofs.«01_k».proof.Proof.Task
public import Idealize.ShloMosaic.Lib.VecWindow

@[expose] public section

set_option maxRecDepth 16384

noncomputable section

namespace Cert.Argmin

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The body -/

/-- Three zeros, written out and as a constant. -/
theorem zero3 : (![0, 0, 0] : Fin 3 → Nat) = fun _ => 0 := funext fun a => by fin_cases a <;> rfl

/-- A buffer of a column group after one store over all of it reads as what was stored. -/
theorem read_full {e : EltTy} (v : View sig .tc .vmem S1x1x512 e) (f : v.ty.Contents (Elt F)) (w : S1x1x512.Idx → Elt F e) (L : List (View.Piece (Elt F) S1x1x512 e)) :
    v.read (Elt F) (v.writes (Elt F) f (⟨Rect.unit (s := S1x1x512) ![0, 0, 0] S1x1x512.size inb_S1x1x512_S1x1x512_0_0_0, w⟩ :: L)) = w := by
  funext z
  have hz : (Rect.unit (s := S1x1x512) ![0, 0, 0] S1x1x512.size inb_S1x1x512_S1x1x512_0_0_0).emb z = z :=
    funext fun a => Fin.ext (by show (![0, 0, 0] : Fin 3 → Nat) a + 1 * (z a).val = (z a).val; rw [zero3]; show 0 + 1 * (z a).val = (z a).val; omega)
  rw [View.writes_cons]
  conv_lhs => rw [← hz]
  exact View.read_slice_write_emb _ _ _ (Finset.mem_univ _)

/-- A load of a whole buffer is what it reads. -/
theorem load_full {s : Shape} {e : EltTy} (v : View sig .tc .vmem s e) {off : Fin s.rank → Nat} (h : off = fun _ => 0) (inb : ∀ a, off a + s.size a ≤ s.size a)
    (f : v.ty.Contents (Elt F)) :
    v.readAt (Elt F) (Rect.unit (s := s) off s.size inb).toLoadRect f = v.read (Elt F) f := by
  rw [View.readAt_eq_ld]; exact View.ld_unit_zero (S := s) h _ _

section
variable (c : Dev nD) (i : grid1.Coords) (M0 : Memref sig .tc .vmem S1x256x512 .f32) (h0 : M0.IsWhole)
  (M1 : Memref sig .tc .vmem S1x1x512 .f32) (h1 : M1.IsWhole) (M2 : Memref sig .tc .vmem S1x1x512 .i32) (h2 : M2.IsWhole)

/-- The first block of a column group: its minimum and index are stored, whatever the buffers held. -/
theorem run_first (hc1 : k1_cond1 i = 1#1) (hc2 : ¬ k1_cond2 i = 1#1) (x : Vec F S1x256x512 .f32) (E : Set ℕ) (Q : PUnit → sProp 𝕄) :
    (iprop(owns (c : Thread nD τ) M0 fullShare x ∗ (∃ v, owns (c : Thread nD τ) M1 fullShare v) ∗ (∃ j, owns (c : Thread nD τ) M2 fullShare j)
      ∗ (iprop(owns (c : Thread nD τ) M0 fullShare x ∗ owns (c : Thread nD τ) M1 fullShare (k1_pay4 x) ∗ owns (c : Thread nD τ) M2 fullShare (k1_pay5 i x)) -∗ Q ⟨⟩)) : sProp 𝕄)
      ⊢ wp frame (wpE (defs₀ (F := F)) 𝒱₀ (c : Thread nD τ) none) E (cc1__tc_body i M0 h0 M1 h1 M2 h2) Q := by
  unfold owns
  iintro ⟨⟨%f0, %e0, H0⟩, ⟨%v, %f1, -, H1⟩, ⟨%j, %f2, -, H2⟩, Hk⟩
  rw [cc1__tc_body_eq_skeleton]
  unfold cc1__tc_body_skel
  sl_exec!
  sl_step
  iapply Hk
  isplitl [H0]
  · iexists _; isplitr; swap; (· iexact H0); ipureintro; exact e0
  isplitl [H1]
  · iexists _; isplitr; swap; (· iexact H1); ipureintro
    sl_unfold_words
    rw [read_full, load_full _ zero3, e0]
  · iexists _; isplitr; swap; (· iexact H2); ipureintro
    sl_unfold_words
    rw [read_full, load_full _ zero3, e0]

/-- A later block: what it holds strictly below the running minimum replaces it, with its index. -/
theorem run_next (hc1 : ¬ k1_cond1 i = 1#1) (hc2 : k1_cond2 i = 1#1) (x : Vec F S1x256x512 .f32) (v : Vec F S1x1x512 .f32) (j : Vec F S1x1x512 .i32)
    (E : Set ℕ) (Q : PUnit → sProp 𝕄) :
    (iprop(owns (c : Thread nD τ) M0 fullShare x ∗ owns (c : Thread nD τ) M1 fullShare v ∗ owns (c : Thread nD τ) M2 fullShare j
      ∗ (iprop(owns (c : Thread nD τ) M0 fullShare x ∗ owns (c : Thread nD τ) M1 fullShare (k1_pay8 x v) ∗ owns (c : Thread nD τ) M2 fullShare (k1_pay9 i x v j)) -∗ Q ⟨⟩)) : sProp 𝕄)
      ⊢ wp frame (wpE (defs₀ (F := F)) 𝒱₀ (c : Thread nD τ) none) E (cc1__tc_body i M0 h0 M1 h1 M2 h2) Q := by
  unfold owns
  iintro ⟨⟨%f0, %e0, H0⟩, ⟨%f1, %e1, H1⟩, ⟨%f2, %e2, H2⟩, Hk⟩
  rw [cc1__tc_body_eq_skeleton]
  unfold cc1__tc_body_skel
  sl_exec!
  sl_step
  iapply Hk
  isplitl [H0]
  · iexists _; isplitr; swap; (· iexact H0); ipureintro; exact e0
  isplitl [H1]
  · iexists _; isplitr; swap; (· iexact H1); ipureintro
    sl_unfold_words
    rw [read_full, load_full _ zero3, load_full _ zero3, e0, e1]
  · iexists _; isplitr; swap; (· iexact H2); ipureintro
    sl_unfold_words
    rw [read_full, load_full _ zero3, load_full _ zero3, load_full _ zero3, e0, e1, e2]
end

/-! ## The grid -/

/-- A point's third coordinate is its number modulo the nine blocks of rows. -/
theorem coords_two : ∀ t : Fin grid1.N, (grid1.coords t 2).val = t.val % 9 := by decide +kernel

/-- The two branches of the body, by the third coordinate. -/
theorem cond_tab : ∀ n : Fin 9, (Scalar.cmpi .ne (Scalar.extui (Scalar.cmpi .eq (BitVec.ofNat 32 n.val) 0#32) : BitVec 32) 0#32 = 1#1 ↔ n.val = 0)
    ∧ (Scalar.cmpi .ne (Scalar.extui (Scalar.cmpi .ne (BitVec.ofNat 32 n.val) 0#32) : BitVec 32) 0#32 = 1#1 ↔ n.val ≠ 0) := by decide

/-- The first branch is taken at the first row block. -/
theorem cond1_iff (i : grid1.Coords) : k1_cond1 i = 1#1 ↔ (i 2).val = 0 := (cond_tab (i 2)).1

/-- The second branch is taken at every other row block. -/
theorem cond2_iff (i : grid1.Coords) : k1_cond2 i = 1#1 ↔ (i 2).val ≠ 0 := (cond_tab (i 2)).2

/-- No window is idle at any point. -/
theorem idle_none : ∀ (w : Fin 3) (i : grid1.Coords), idle1 w i = false
  | 0, _ => rfl
  | 1, i => by
    show (!(k1_cond1 i == 1#1) && !(k1_cond2 i == 1#1)) = false
    by_cases h : (i 2).val = 0
    · rw [(cond1_iff i).mpr h]; rfl
    · rw [(cond2_iff i).mpr h, Bool.and_comm]; rfl
  | 2, i => by
    show (!(k1_cond1 i == 1#1) && !(k1_cond2 i == 1#1)) = false
    by_cases h : (i 2).val = 0
    · rw [(cond1_iff i).mpr h]; rfl
    · rw [(cond2_iff i).mpr h, Bool.and_comm]; rfl
  | ⟨_ + 3, h⟩, _ => absurd h (Nat.not_lt.2 (Nat.le_add_left _ _))

/-! ## The running minimum and its index -/

section
variable (fx : S4x4096x2048.Idx → F .f32)

/-- The block of `x` that point `t` works on. -/
abbrev xBlk (t : Fin cfg1.N) : Vec F S1x256x512 .f32 := ((cfg1.win 0).blk t).view.read (Elt F) fx

/-- The running minimum and its index after point `n`: restarted at the first block of each column group. -/
def acc : (n : ℕ) → n < cfg1.N → Vec F S1x1x512 .f32 × Vec F S1x1x512 .i32
  | 0, h => (k1_pay4 (xBlk fx ⟨0, h⟩), k1_pay5 (grid1.coords ⟨0, h⟩) (xBlk fx ⟨0, h⟩))
  | n + 1, h =>
    if (n + 1) % 9 = 0 then (k1_pay4 (xBlk fx ⟨n + 1, h⟩), k1_pay5 (grid1.coords ⟨n + 1, h⟩) (xBlk fx ⟨n + 1, h⟩))
    else (k1_pay8 (xBlk fx ⟨n + 1, h⟩) (acc n (Nat.lt_of_succ_lt h)).1,
      k1_pay9 (grid1.coords ⟨n + 1, h⟩) (xBlk fx ⟨n + 1, h⟩) (acc n (Nat.lt_of_succ_lt h)).1 (acc n (Nat.lt_of_succ_lt h)).2)

/-- At the first row block the running minimum is the block's. -/
theorem acc_first (t : Fin cfg1.N) (h : t.val % 9 = 0) :
    acc fx t.val t.isLt = (k1_pay4 (xBlk fx t), k1_pay5 (grid1.coords t) (xBlk fx t)) := by
  obtain ⟨n, hn⟩ := t
  cases n with
  | zero => rfl
  | succ n => exact if_pos h

/-- At a later row block the running minimum is taken with the block's. -/
theorem acc_next (t : Fin cfg1.N) (h : ¬ t.val % 9 = 0) (h' : t.val - 1 < cfg1.N) :
    acc fx t.val t.isLt = (k1_pay8 (xBlk fx t) (acc fx (t.val - 1) h').1,
      k1_pay9 (grid1.coords t) (xBlk fx t) (acc fx (t.val - 1) h').1 (acc fx (t.val - 1) h').2) := by
  obtain ⟨n, hn⟩ := t
  cases n with
  | zero => exact absurd rfl h
  | succ n => exact if_neg h

end

/-! ## The proof data of the pipeline -/

variable (V : (c : Dev nD) → (b : Ref sig .tc) → Buf (Elt F) ((c : Thread nD τ).loc b))

/-- Entered at the contents `V`: the block of `x` as fetched, the running minimum and its index after each point. -/
def dat (c : Dev nD) : Dat τ (Elt F) (HIx 1) ℕ UU ℕ cfg1 c where
  A w := V c (Pipeline.arrRef spec1 w)
  after w t := match w with
    | ⟨0, _⟩ => xBlk (V c main_arg0) t
    | ⟨1, _⟩ => (acc (V c main_arg0) t.val t.isLt).1
    | ⟨2, _⟩ => (acc (V c main_arg0) t.val t.isLt).2
  Φ _ := BI.emp
  q _ := fullShare
  owed _ := 0
  recorded _ := {p | (K (F := F)).lev (SparseCore.T c, p.1) p.2 ≤ 8}

/-- The proof data, one per pipeline of the program: there is one. -/
def pdats (adm : (p : Fin 1) → (pcfgs (F := F) p).Adm) : (p : Fin 1) → (c : Dev nD) → Dat τ (Elt F) (HIx 1) ℕ UU ℕ (Pipeline.pin (pcfgs (F := F)) adm p) c
  | ⟨0, _⟩ => fun c => dat V c

/-- Before a point the operand's window holds the point's block. -/
theorem before_0 (c : Dev nD) (t : Fin cfg1.N) (d : (cfg1.win 0).block.Idx → Elt F (cfg1.win 0).elt) :
    (dat V c).before 0 t d = xBlk (V c main_arg0) t := by
  unfold Dat.before; rw [if_pos (fetch1_0 t)]; rfl

/-- Before a later row block the first result's window holds the running minimum. -/
theorem before_1 (c : Dev nD) (t : Fin cfg1.N) (ht : ¬ t.val % 9 = 0) (d : (cfg1.win 1).block.Idx → Elt F (cfg1.win 1).elt) :
    (dat V c).before 1 t d = (acc (V c main_arg0) (t.val - 1) (by omega)).1 := by
  refine (Dat.before_out_kept (dat V c) 1 rfl t (fun h => ht (by rw [h])) ?_ (idle_none 1) (fun _ _ => rfl) d).trans ?_
  · rw [← Bool.not_eq_true, flush1_1]; dsimp only; omega
  · dsimp only [dat]

/-- Before a later row block the second result's window holds the running minimum's row. -/
theorem before_2 (c : Dev nD) (t : Fin cfg1.N) (ht : ¬ t.val % 9 = 0) (d : (cfg1.win 2).block.Idx → Elt F (cfg1.win 2).elt) :
    (dat V c).before 2 t d = (acc (V c main_arg0) (t.val - 1) (by omega)).2 := by
  refine (Dat.before_out_kept (dat V c) 2 rfl t (fun h => ht (by rw [h])) ?_ (idle_none 2) (fun _ _ => rfl) d).trans ?_
  · rw [← Bool.not_eq_true, flush1_2]; dsimp only; omega
  · dsimp only [dat]

/-- A staging buffer at what the data say the body leaves there is left as the obligation asks. -/
theorem leave (c : Dev nD) (w : Fin 3) (t : Fin cfg1.N) (X : (cfg1.win w).block.Idx → Elt F (cfg1.win w).elt) (h : (dat V c).after w t = X) :
    (owns (c : Thread nD τ) ((cfg1.win w).stage (cfg1.slots t w)) fullShare X : sProp 𝕄) ⊢ (dat V c).leavesExact w t := by
  unfold Dat.leavesExact
  rw [show cfg1.idle w (cfg1.grid.coords t) = false from idle_none w _, h]

/-- The body runs at every point, from what it finds to what it leaves. -/
theorem body_obligation (c : Dev nD) : BodyObligation (dat V c) (defs₀ (F := F)) 𝒱₀ none Set.univ := fun t => by
  rw [bigSep_W1, bigSep_W1]
  rw [show (dat V c).Φ t.castSucc = BI.emp from rfl, show (dat V c).Φ t.succ = BI.emp from rfl,
    show (dat V c).owesAt none t.succ = (dat V c).owesAt none t.castSucc from rfl]
  iintro ⟨HΦ, Howes, ⟨%d0, H0⟩, ⟨%d1, H1⟩, ⟨%d2, H2⟩⟩
  rw [before_0]
  have hN : cfg1.N = 144 := N_1
  by_cases ht : t.val % 9 = 0
  · have h1 : k1_cond1 (grid1.coords t) = 1#1 := (cond1_iff _).mpr ((coords_two t).trans ht)
    have h2 : ¬ k1_cond2 (grid1.coords t) = 1#1 := fun h => (cond2_iff _).mp h ((coords_two t).trans ht)
    iapply (run_first c (grid1.coords t) _ (hstage1_0 ((cfg1.slots t 0).cast nbuf1_0)) _ (hstage1_1 ((cfg1.slots t 1).cast nbuf1_1)) _ (hstage1_2 ((cfg1.slots t 2).cast nbuf1_2)) h1 h2 (xBlk (V c main_arg0) t) Set.univ)
    isplitl [H0]; · iexact H0
    isplitl [H1]; · iexists _; iexact H1
    isplitl [H2]; · iexists _; iexact H2
    iintro ⟨H0, H1, H2⟩
    ihave H0 := (leave V c 0 t (xBlk (V c main_arg0) t) (by dsimp only [dat])) $$ [H0]
    · iexact H0
    ihave H1 := (leave V c 1 t (k1_pay4 (xBlk (V c main_arg0) t)) (by dsimp only [dat]; rw [acc_first _ t ht])) $$ [H1]
    · iexact H1
    ihave H2 := (leave V c 2 t (k1_pay5 (grid1.coords t) (xBlk (V c main_arg0) t)) (by dsimp only [dat]; rw [acc_first _ t ht])) $$ [H2]
    · iexact H2
    isplitl [HΦ]; · iexact HΦ
    isplitl [Howes]; · iexact Howes
    isplitl [H0]; · iexact H0
    isplitl [H1]; · iexact H1
    iexact H2
  · have h1 : ¬ k1_cond1 (grid1.coords t) = 1#1 := fun h => ht ((coords_two t).symm.trans ((cond1_iff _).mp h))
    have h2 : k1_cond2 (grid1.coords t) = 1#1 := (cond2_iff _).mpr fun h => ht ((coords_two t).symm.trans h)
    rw [before_1 V c t ht, before_2 V c t ht]
    iapply (run_next c (grid1.coords t) _ (hstage1_0 ((cfg1.slots t 0).cast nbuf1_0)) _ (hstage1_1 ((cfg1.slots t 1).cast nbuf1_1)) _ (hstage1_2 ((cfg1.slots t 2).cast nbuf1_2)) h1 h2 (xBlk (V c main_arg0) t) _ _ Set.univ)
    isplitl [H0]; · iexact H0
    isplitl [H1]; · iexact H1
    isplitl [H2]; · iexact H2
    iintro ⟨H0, H1, H2⟩
    ihave H0 := (leave V c 0 t (xBlk (V c main_arg0) t) (by dsimp only [dat])) $$ [H0]
    · iexact H0
    ihave H1 := (leave V c 1 t (k1_pay8 (xBlk (V c main_arg0) t) (acc (V c main_arg0) (t.val - 1) (by omega)).1) (by dsimp only [dat]; rw [acc_next _ t ht (by omega)])) $$ [H1]
    · iexact H1
    ihave H2 := (leave V c 2 t (k1_pay9 (grid1.coords t) (xBlk (V c main_arg0) t) (acc (V c main_arg0) (t.val - 1) (by omega)).1 (acc (V c main_arg0) (t.val - 1) (by omega)).2) (by dsimp only [dat]; rw [acc_next _ t ht (by omega)])) $$ [H2]
    · iexact H2
    isplitl [HΦ]; · iexact HΦ
    isplitl [Howes]; · iexact Howes
    isplitl [H0]; · iexact H0
    isplitl [H1]; · iexact H1
    iexact H2

end Cert.Argmin

end
-- ==== Proof.Region.lean ====
/-
  The TensorCore kernel's region inside @main: entered from any contents of the TensorCore's buffers, left with the two
  result arrays at what the grid's points wrote, every other buffer as it was.
-/
module

public import proofs.«01_k».proof.Proof.Tc
public import Idealize.ShloMosaic.Lib.Pipeline.RegionsLoop

@[expose] public section

set_option maxRecDepth 16384

noncomputable section

namespace Cert.Argmin

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-- The pipeline reads no table before it starts. -/
abbrev adm : (p : Fin 1) → (pcfgs (F := F) p).Adm := fun p => (cfgs p).toPCfg_adm

/-! ## What the TensorCore owes and has waited for -/

/-- The TensorCore owes nothing, and everything it has waited for lies at or below the SparseCore call's level. -/
def idleOwes (c : Dev nD) : sProp 𝕄 :=
  iprop(∃ W, ⌜(K (F := F)).WBelow (SparseCore.T c) W 8⌝ ∗ owes (SparseCore.T c) (0 : CellTallies nD τ sig (HIx 1)) W)

variable (V Vp : (c : Dev nD) → (b : Ref sig .tc) → Buf (Elt F) ((c : Thread nD τ).loc b))

set_option backward.isDefEq.respectTransparency.types false in
/-- The region, from the buffers at `V` to the buffers at `Vp`, where `Vp` has the two results at what the grid wrote
    and agrees with `V` elsewhere. -/
def reg (hV1 : ∀ c, Vp c main_v1_0 = (dat V c).arrAt 1 cfg1.N) (hV2 : ∀ c, Vp c main_v1_1 = (dat V c).arrAt 2 cfg1.N)
    (hVne : ∀ c (b : Ref sig .tc), b ≠ main_v1_0 → b ≠ main_v1_1 → Vp c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idleOwes c)
  post c := iprop(unscopedBufs c (Vp c) ∗ idleOwes c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    unfold idleOwes
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = BI.emp from rfl]
    iintro ⟨-, -, -⟩; iempintro
  hout c := by
    rw [Pipeline.ownSems0_none, show (pdats V adm 0 c).Φ (Fin.last _) = BI.emp from rfl]
    iintro -
    isplitr; · iempintro
    isplitr; · iempintro
    iapply (Entails.of_eq (scopedRest1_eq c).symm)
    iempintro
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVne c main_arg0 (by decide) (by decide)).symm
        · exact (hV1 c).symm
        · exact (hV2 c).symm)
      (fun b hb => hVne c b (fun h => hb (h ▸ Finset.mem_image.mpr ⟨1, Finset.mem_univ _, rfl⟩))
        (fun h => hb (h ▸ Finset.mem_image.mpr ⟨2, Finset.mem_univ _, rfl⟩)))
    unfold idleOwes
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact Nat.zero_le _
    iexact HO

/-! ## The ghost state of the handshakes and of the pipeline -/

/-- The SparseCore handshakes' rounds inside the ghost state. -/
abbrev EH : Emb UH (MT nD τ sig (HIx 1) (Elt F) ℕ UU ℕ) := embL

/-- The pipeline's rounds inside the ghost state. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

/-- The pipeline's rounds are a part of the ghost state. -/
instance EP_landsIn : (EP : Emb UP 𝕄).LandsIn (upEmb : UEmb _ 𝕄) := by unfold EP; infer_instance

/-- The launch's ghost state is the two parts. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The pipeline's share of the ghost state on core `c`. -/
def pipeGhost (c : Dev nD) : sProp 𝕄 :=
  iprop(Pipeline.cellsGhost (Pipeline.pin (pcfgs (F := F)) adm) EP 0 c ∗ Pipeline.toksInit (Pipeline.pin (pcfgs (F := F)) adm) EP 0 c)

/-- The launch's part of the pipeline, dealt to the cores. -/
theorem pipe_alloc : BI.own (EP (F := F) (initOf (Pipeline.cells (Pipeline.pin (pcfgs (F := F)) adm) cellOf_inj) (Pipeline.launchToks (Pipeline.pin (pcfgs (F := F)) adm) cellOf_inj)))
    ⊢ iprop(|==> bigSep Finset.univ fun c : Dev nD => pipeGhost (F := F) c) := by
  refine (Pipeline.fund_ghost (Pipeline.pin (pcfgs (F := F)) adm) EP cellOf_inj).trans (bupd_mono ?_)
  unfold pipeGhost
  refine BIBase.Entails.trans ?_ (Entails.of_eq (BI.bigSep_sep _ _ _).symm)
  refine BI.sep_mono (Entails.of_eq (bigSep_congr fun c _ => ?_)) (Entails.of_eq (bigSep_congr fun c _ => ?_))
  · rw [show (Finset.univ : Finset (Fin 1)) = {0} from rfl, bigSep_singleton]
  · rw [show (Finset.univ : Finset (Fin 1)) = {0} from rfl, bigSep_singleton]

variable [∀ e, Nonempty (Elt F e)]

/-- The call of the region in @main, as the call under the pipelines' own body table. -/
theorem lift_region : (Prog.lift (.customCall (SparseCore.inner (Pipeline.entry 0)) ()) :
      Prog (TpuEff nD τ sig (Elt F) (SparseCore.Sig (ΛP (F := F)) 1) .tc) PUnit)
    = SparseCore.liftProg (.op (.customCall (Pipeline.entry 0) ()) fun _ => .ret ⟨⟩) := rfl

set_option backward.isDefEq.respectTransparency.types false in
/-- The region under the pipelines' own body table. -/
theorem region_wp' (hV1 : ∀ c, Vp c main_v1_0 = (dat V c).arrAt 1 cfg1.N) (hV2 : ∀ c, Vp c main_v1_1 = (dat V c).arrAt 2 cfg1.N)
    (hVne : ∀ c (b : Ref sig .tc), b ≠ main_v1_0 → b ≠ main_v1_1 → Vp c b = V c b) (c : Dev nD) (Q : PUnit → sProp 𝕄) :
    (iprop((iprop(boundary (SparseCore.T c) ∗ unscopedBufs c (Vp c) ∗ idleOwes c) -∗ Q ⟨⟩)
        ∗ boundary (SparseCore.T c) ∗ (unscopedBufs c (V c) ∗ idleOwes c) ∗ levAts (K (F := F)).L (K (F := F)).lev ∗ pipeGhost c) : sProp 𝕄)
      ⊢ wp frame (wpE (D (F := F)) 𝒱 (SparseCore.T c) none) Set.univ
          (.op (.customCall (Pipeline.entry 0) ()) fun _ => .ret ⟨⟩) Q := by
  have h := Pipeline.RegionSeg.wp (pcfgs (F := F)) adm (pdats V adm) none cellOf_inj EP defs₀ 𝒱₀ (K (F := F)).L (K (F := F)).lev
    (reg V Vp hV1 hV2 hVne) c none (fun u h => nomatch h) (fun _ => .ret ⟨⟩) Q
  rw [show (reg V Vp hV1 hV2 hVne).pre c = iprop(unscopedBufs c (V c) ∗ idleOwes c) from rfl,
    show (reg V Vp hV1 hV2 hVne).post c = iprop(unscopedBufs c (Vp c) ∗ idleOwes c) from rfl] at h
  refine BIBase.Entails.trans ?_ h
  unfold pipeGhost
  iintro ⟨Hk, Hb, Hpre, HL, Hg, Ht⟩
  isplitl [Hk]
  · iintro H
    rw [wp_ret]; imodintro
    iapply Hk
    iexact H
  isplitl [Hb]; · iexact Hb
  isplitl [Hpre]; · iexact Hpre
  isplitl [HL]; · iexact HL
  isplitl [Hg]; · iexact Hg
  iexact Ht

/-- The call of the region in @main. -/
theorem region_wp (hV1 : ∀ c, Vp c main_v1_0 = (dat V c).arrAt 1 cfg1.N) (hV2 : ∀ c, Vp c main_v1_1 = (dat V c).arrAt 2 cfg1.N)
    (hVne : ∀ c (b : Ref sig .tc), b ≠ main_v1_0 → b ≠ main_v1_1 → Vp c b = V c b) (c : Dev nD) (Q : PUnit → sProp 𝕄) :
    (iprop((iprop(boundary (SparseCore.T c) ∗ unscopedBufs c (Vp c) ∗ idleOwes c) -∗ Q ⟨⟩)
        ∗ boundary (SparseCore.T c) ∗ (unscopedBufs c (V c) ∗ idleOwes c) ∗ levAts (K (F := F)).L (K (F := F)).lev ∗ pipeGhost c) : sProp 𝕄)
      ⊢ wp frame (wpE ((K (F := F)).defs (D (F := F))) 𝒱 (SparseCore.T c) none) Set.univ
          (Prog.lift (.customCall (SparseCore.inner (Pipeline.entry 0)) ())) Q := by
  rw [lift_region]
  exact (region_wp' V Vp hV1 hV2 hVne c Q).trans ((K (F := F)).wp_liftProg (D (F := F)) 𝒱 (SparseCore.T c) Set.univ none _ Q)

end Cert.Argmin

end
-- ==== Proof.Launch.lean ====
/-
  The whole program's run, over any float values: the SparseCore call, the TensorCore region, the host's merge, and what
  every buffer @main names holds at the end.
-/
module

public import proofs.«01_k».proof.Proof.Region

@[expose] public section

set_option maxRecDepth 16384

noncomputable section

namespace Cert.Argmin

open Cert.KernelIdeal Cert.KernelIdeal.Gen

open Idealize.ShloMosaic Idealize.ShloMosaic.TcCoe
open Idealize.ShloMosaic.StableHlo (held)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The SparseCore call: what it takes, what it hands back -/

/-- The tiles' segments of the two results are the two results. -/
theorem segs_whole (d : Dev nD) (f : Buf (Elt F) (vLoc d)) (g : Buf (Elt F) (iLoc d)) :
    (bigSep Finset.univ fun c : Fin 2 => bigSep Finset.univ fun i : Fin 16 => (segs d (c, i) f g : sProp 𝕄)) = iprop((vLoc d ↦{fullShare} f) ∗ iLoc d ↦{fullShare} g) := by
  rw [← SparseCore.bigSep_product (Finset.univ : Finset (Fin 2)) (Finset.univ : Finset (Fin 16)) (fun t => (segs d t f g : sProp 𝕄)),
    Finset.univ_product_univ, bigSep_sep' Finset.univ (fun t : Fin 2 × Fin 16 => (vLoc d ↦[seg (pt t)]{fullShare} f : sProp 𝕄)),
    ← pointsTo_biUnion (Ix := HIx 1) (Val := Elt F) (Name := ℕ) (U := UU) (Lvl := ℕ) (ℓ := vLoc d) (q := fullShare) (f := f) Finset.univ (fun t => seg (pt t)) seg_disjoint,
    ← pointsTo_biUnion (Ix := HIx 1) (Val := Elt F) (Name := ℕ) (U := UU) (Lvl := ℕ) (ℓ := iLoc d) (q := fullShare) (f := g) Finset.univ (fun t => seg (pt t)) seg_disjoint, seg_cover]

/-- The operand and the two results, dealt to the SparseCores; a share of the operand stays behind. -/
theorem callDeal (d : Dev nD) (f : Buf (Elt F) (vLoc d)) (g : Buf (Elt F) (iLoc d)) :
    (iprop((xLoc d ↦{Transfers.shareDrop fullShare 2} m (xLoc d))
        ∗ bigSep Finset.univ fun c : Fin 2 => iprop((xLoc d ↦{qc c} m (xLoc d)) ∗ bigSep Finset.univ fun i : Fin 16 => segs d (c, i) f g)) : sProp 𝕄)
      ⊣⊢ iprop((xLoc d ↦{fullShare} m (xLoc d)) ∗ (vLoc d ↦{fullShare} f) ∗ iLoc d ↦{fullShare} g) := by
  rw [bigSep_sep' Finset.univ (fun c : Fin 2 => (xLoc d ↦{qc c} m (xLoc d) : sProp 𝕄)), segs_whole]
  constructor
  · iintro ⟨Hr, Ht, Hs⟩
    isplitl [Hr Ht]
    · iapply (xDeal d fullShare (m (xLoc d)) 2).2
      isplitl [Hr]; · iexact Hr
      iexact Ht
    iexact Hs
  · iintro ⟨Hx, Hs⟩
    ihave H := (xDeal d fullShare (m (xLoc d)) 2).1 $$ Hx
    icases H with ⟨Hr, Ht⟩
    isplitl [Hr]; · iexact Hr
    isplitl [Ht]; · iexact Ht
    iexact Hs

/-- What the two SparseCores are sent at the start, over the plain numbers 0 and 1. -/
theorem st_eq (d : Dev nD) : (bigSep Finset.univ fun c : Fin ((K (F := F)).nCore 0) => (P m).st 0 d c)
    = (bigSep Finset.univ fun c : Fin 2 => iprop((xLoc d ↦{qc c} m (xLoc d)) ∗ bigSep Finset.univ fun i : Fin 16 => segs d (c, i) (m (vLoc d)) (m (iLoc d))) : sProp 𝕄) :=
  bigSep_cores (F := F) fun c : Fin 2 => iprop((xLoc d ↦{qc c} m (xLoc d)) ∗ bigSep Finset.univ fun i : Fin 16 => segs d (c, i) (m (vLoc d)) (m (iLoc d)))

/-- What the two SparseCores send back at the end, over the plain numbers 0 and 1. -/
theorem dn_eq (d : Dev nD) : (bigSep Finset.univ fun c : Fin ((K (F := F)).nCore 0) => (P m).dn 0 d c)
    = (bigSep Finset.univ fun c : Fin 2 => iprop((xLoc d ↦{qc c} m (xLoc d)) ∗ bigSep Finset.univ fun i : Fin 16 => segs d (c, i) (vOut m d) (iOut m d)) : sProp 𝕄) :=
  bigSep_cores (F := F) fun c : Fin 2 => iprop((xLoc d ↦{qc c} m (xLoc d)) ∗ bigSep Finset.univ fun i : Fin 16 => segs d (c, i) (vOut m d) (iOut m d))

/-! ## What the TensorCore's buffers hold, step by step -/

/-- The operand. -/
abbrev x' : DevRef τ sig := Proc.devRef .tc main_arg0
/-- The SparseCore's minima. -/
abbrev v' : DevRef τ sig := Proc.devRef .tc main_v0_0
/-- The SparseCore's rows. -/
abbrev i' : DevRef τ sig := Proc.devRef .tc main_v0_1
/-- The TensorCore's minima. -/
abbrev a' : DevRef τ sig := Proc.devRef .tc main_v1_0
/-- The TensorCore's rows. -/
abbrev b' : DevRef τ sig := Proc.devRef .tc main_v1_1

/-- At the launch. -/
def W0 (d : Dev nD) : Valuation τ sig (Elt F) := fun b => m (d, b)
/-- After the SparseCore call. -/
def W1 (d : Dev nD) : Valuation τ sig (Elt F) := Function.update (Function.update (W0 m d) v' (vOut m d)) i' (iOut m d)
/-- The same, by the TensorCore's own names of its buffers. -/
abbrev V1 : (c : Dev nD) → (b : Ref sig .tc) → Buf (Elt F) ((c : Thread nD τ).loc b) := fun c b => W1 m c (Proc.devRef .tc b)
/-- After the TensorCore's region. -/
def W2 (d : Dev nD) : Valuation τ sig (Elt F) :=
  Function.update (Function.update (W1 m d) a' ((dat (V1 m) d).arrAt 1 cfg1.N)) b' ((dat (V1 m) d).arrAt 2 cfg1.N)
/-- The same, by the TensorCore's own names of its buffers. -/
abbrev V2 : (c : Dev nD) → (b : Ref sig .tc) → Buf (Elt F) ((c : Thread nD τ).loc b) := fun c b => W2 m c (Proc.devRef .tc b)

/-- The host's merge of the two halves. -/
abbrev hostOps : List (HloOp τ sig (Elt F)) := [
  StableHlo.reshape main_v1_0 main_v2 (rfl : (.f32 : EltTy) = .f32) shapeCasts_S4x1x2048_S4x2048,
  StableHlo.binary main_v2 main_v0_0 main_v3 (cmpf .ole : (⟨S4x2048, .f32⟩ : BufTy).Contents (Elt F) → (⟨S4x2048, .f32⟩ : BufTy).Contents (Elt F) → (⟨S4x2048, .i1⟩ : BufTy).Contents (Elt F)),
  StableHlo.reshape main_v1_1 main_v4 (rfl : (.i32 : EltTy) = .i32) shapeCasts_S4x1x2048_S4x2048,
  StableHlo.ternary main_v3 main_v4 main_v0_1 main_v5 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F))]

/-- At the end. -/
def W3 (d : Dev nD) : Valuation τ sig (Elt F) := StableHlo.after hostOps (W2 m d)

/-- @main is the SparseCore call, the TensorCore's region and the host's merge, one after the other. -/
theorem main_eq (d : Dev nD) : main (F := F) d = ((K (F := F)).run d 0 >>= fun _ => Prog.lift (.customCall (SparseCore.inner (Pipeline.entry 0)) ()) >>= fun _ => StableHlo.seq hostOps >>= fun _ => pure ⟨⟩) := rfl

/-- The SparseCore call leaves the operand as it was. -/
theorem W1_x (d : Dev nD) : W1 m d x' = m (xLoc d) := by
  unfold W1; rw [Function.update_of_ne (by decide), Function.update_of_ne (by decide)]; rfl

/-- The SparseCore call leaves the minima of its rows. -/
theorem W1_v (d : Dev nD) : W1 m d v' = vOut m d := by
  unfold W1; rw [Function.update_of_ne (by decide), Function.update_self]

/-- The SparseCore call leaves the rows of its minima. -/
theorem W1_i (d : Dev nD) : W1 m d i' = iOut m d := by
  unfold W1; rw [Function.update_self]

/-- The region leaves the operand as it was. -/
theorem W2_x (d : Dev nD) : W2 m d x' = m (xLoc d) := by
  unfold W2; rw [Function.update_of_ne (by decide), Function.update_of_ne (by decide), W1_x]

/-- The region leaves the SparseCore's minima as they were. -/
theorem W2_v (d : Dev nD) : W2 m d v' = vOut m d := by
  unfold W2; rw [Function.update_of_ne (by decide), Function.update_of_ne (by decide), W1_v]

/-- The region leaves the SparseCore's rows as they were. -/
theorem W2_i (d : Dev nD) : W2 m d i' = iOut m d := by
  unfold W2; rw [Function.update_of_ne (by decide), Function.update_of_ne (by decide), W1_i]

/-- The region leaves its own minima. -/
theorem W2_a (d : Dev nD) : W2 m d a' = (dat (V1 m) d).arrAt 1 cfg1.N := by
  unfold W2; rw [Function.update_of_ne (by decide), Function.update_self]

/-- The region leaves its own rows. -/
theorem W2_b (d : Dev nD) : W2 m d b' = (dat (V1 m) d).arrAt 2 cfg1.N := by
  unfold W2; rw [Function.update_self]

/-- The region changes nothing but its two results. -/
theorem V2_ne (c : Dev nD) (b : Ref sig .tc) (h1 : b ≠ main_v1_0) (h2 : b ≠ main_v1_1) : V2 m c b = V1 m c b := by
  show W2 m c _ = W1 m c _
  unfold W2
  rw [Function.update_of_ne fun h => h2 (Proc.devRef_injective _ h), Function.update_of_ne fun h => h1 (Proc.devRef_injective _ h)]

/-- At the end the operand is as at the launch. -/
theorem W3_x (d : Dev nD) : W3 m d x' = m (xLoc d) := by
  rw [← W2_x m d]
  unfold W3
  after_results

/-- At the end the result is the merge of the two halves' results. -/
theorem W3_y (d : Dev nD) : W3 m d (Proc.devRef .tc main_v5)
    = select (cmpf .ole (shapeCast S4x2048 ((dat (V1 m) d).arrAt 1 cfg1.N) shapeCasts_S4x1x2048_S4x2048) (vOut m d) : S4x2048.Idx → BitVec 1)
        (shapeCast S4x2048 ((dat (V1 m) d).arrAt 2 cfg1.N) shapeCasts_S4x1x2048_S4x2048) (iOut m d) := by
  rw [← W2_a m d, ← W2_b m d, ← W2_v m d, ← W2_i m d]
  unfold W3
  after_results
  rfl

/-! ## The buffers as one set -/

/-- The TensorCore's unscoped buffers. -/
def ucRefs : Finset (DevRef τ sig) := (StableHlo.tcRefs τ sig).filter fun b => ¬ b.isScoped

/-- The TensorCore's unscoped buffers, held one by one. -/
theorem unscopedBufs_held (c : Dev nD) (W : Valuation τ sig (Elt F)) :
    (unscopedBufs c (fun b => W (Proc.devRef .tc b)) : sProp 𝕄) = held (SparseCore.T c) ucRefs W := by
  unfold unscopedBufs held ucRefs StableHlo.tcRefs
  rw [Finset.filter_map, bigSep_map]
  rfl

/-- What the SparseCore call touches. -/
abbrev S3 : Finset (DevRef τ sig) := {x', v', i'}

/-- The SparseCore call touches unscoped buffers only. -/
theorem S3_sub : S3 ⊆ ucRefs := by decide

/-- The merge touches unscoped buffers only. -/
theorem hostOps_sub : ∀ op ∈ hostOps (F := F), op.bufs ⊆ ucRefs := by
  intro op hop
  simp only [List.mem_cons, List.not_mem_nil, or_false] at hop
  rcases hop with rfl | rfl | rfl | rfl
  · exact show ({Proc.devRef .tc main_v1_0, Proc.devRef .tc main_v2} : Finset (DevRef τ sig)) ⊆ ucRefs by decide
  · exact show ({Proc.devRef .tc main_v2, Proc.devRef .tc main_v0_0, Proc.devRef .tc main_v3} : Finset (DevRef τ sig)) ⊆ ucRefs by decide
  · exact show ({Proc.devRef .tc main_v1_1, Proc.devRef .tc main_v4} : Finset (DevRef τ sig)) ⊆ ucRefs by decide
  · exact show ({Proc.devRef .tc main_v3, Proc.devRef .tc main_v4, Proc.devRef .tc main_v0_1, Proc.devRef .tc main_v5} : Finset (DevRef τ sig)) ⊆ ucRefs by decide

/-- The merge needs no buffer of its own. -/
theorem hostOps_fresh : ∀ op ∈ hostOps (F := F), op.fresh = ∅ := by
  intro op hop
  simp only [List.mem_cons, List.not_mem_nil, or_false] at hop
  rcases hop with rfl | rfl | rfl | rfl <;> rfl

/-- The three buffers of the SparseCore call apart from the others. -/
theorem held_split3 (d : Dev nD) (W : Valuation τ sig (Elt F)) :
    (held (SparseCore.T d) ucRefs W : sProp 𝕄)
      = iprop(((xLoc d ↦{fullShare} W x') ∗ (vLoc d ↦{fullShare} W v') ∗ iLoc d ↦{fullShare} W i') ∗ held (SparseCore.T d) (ucRefs \ S3) W) := by
  unfold held
  conv_lhs => rw [← Finset.union_sdiff_of_subset S3_sub]
  rw [bigSep_union Finset.disjoint_sdiff]
  conv_lhs => rw [show S3 = insert x' (insert v' {i'}) from rfl, SparseCore.bigSep_insert' (by decide), SparseCore.bigSep_insert' (by decide), bigSep_singleton]
  rfl

/-- The SparseCore call leaves the other buffers as they were. -/
theorem held_rest (d : Dev nD) : (held (SparseCore.T d) (ucRefs \ S3) (W0 m d) : sProp 𝕄) = held (SparseCore.T d) (ucRefs \ S3) (W1 m d) := by
  unfold held
  refine bigSep_congr fun b hb => ?_
  have hb := (Finset.mem_sdiff.mp hb).2
  unfold W1
  rw [Function.update_of_ne fun h => hb (by rw [h]; decide), Function.update_of_ne fun h => hb (by rw [h]; decide)]

/-! ## The launch's ghost state -/

/-- The ghost state at the launch: the handshakes' cells and the pipeline's, all at their start. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- Nothing, held many times over, is nothing. -/
theorem bigSep_emp' {I : Type} (s : Finset I) : (bigSep s fun _ => iprop(emp)) = (iprop(emp) : sProp 𝕄) := bigSep_emp_const s

/-- The ghost state at the launch, dealt to the handshakes and to the pipeline. -/
theorem hu₀ : (ownU (u₀ (F := F)) : sProp 𝕄)
    ⊢ |={Set.univ}=> iprop(BI.own (EH (initOf (K (F := F)).hsCells (K (F := F)).hsToks)) ∗ (bigSep Finset.univ fun c : Dev nD => pipeGhost (F := F) c)
        ∗ bigSep Finset.univ fun thr : Thread nD τ => bigSep Finset.univ fun q : Fin 1 => (P m).x q thr) := by
  unfold u₀
  iintro Hu
  ihave H := (ownU_split _ _) $$ Hu
  icases H with ⟨HH, HP⟩
  imod pipe_alloc $$ HP with HP
  imodintro
  isplitl [HH]; · iexact HH
  isplitl [HP]; · iexact HP
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

variable [∀ e, Nonempty (Elt F e)]

/-- What @main leaves the claim: its buffers at their last contents. -/
abbrev FIN (d : Dev nD) : sProp 𝕄 := held (SparseCore.T d) ucRefs (W3 m d)

/-- After the only call the TensorCore owes nothing more to the SparseCores. -/
theorem tcSt_one (d : Dev nD) : ∃ R : sProp 𝕄, ((K (F := F)).tcSt EH d 1 : sProp 𝕄) = iprop(idleOwes d ∗ R) :=
  ⟨_, by unfold SparseCore.Cfg.tcSt idleOwes; rw [(K (F := F)).Otc_end d (le_refl 1)]; rfl⟩

/-- @main runs from its buffers as launched and leaves them at `W3`. -/
theorem hmain (κ : GSem nD τ sig → ℕ) (d : Dev nD) :
    iprop((K (F := F)).ctx EH (P m) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) ucRefs (W0 m d) from unscopedBufs_held d (W0 m d),
    held_split3, wp_bind]
  iintro ⟨#Hctx, Hst, ⟨Hb, ⟨Hxvi, Hrest⟩, Hts, -⟩, HG⟩
  ihave Hd := (callDeal m d (m (vLoc d)) (m (iLoc d))).2 $$ [Hxvi]
  · iexact Hxvi
  icases Hd with ⟨Hxr, Hd⟩
  iapply ((K (F := F)).wp_run (D (F := F)) 𝒱 (EH := EH) (P := P m) κ d 0) $$ [Hst Hxr Hd Hb Hrest Hts HG]
  isplitr; · iexact Hctx
  isplitl [Hst]; · iexact Hst
  isplitl [Hd]
  · rw [st_eq]; iexact Hd
  iintro ⟨Hst, Hdn⟩
  ihave Hdn := (Entails.of_eq (dn_eq m d)) $$ Hdn
  ihave Hxvi := (callDeal m d (vOut m d) (iOut m d)).1 $$ [Hxr Hdn]
  · isplitl [Hxr]; · iexact Hxr
    iexact Hdn
  obtain ⟨R, hR⟩ := tcSt_one (F := F) d
  ihave Hst := (Entails.of_eq hR) $$ [Hst]
  · iexact Hst
  icases Hst with ⟨HO, Hst⟩
  ihave Hlev := (SparseCore.Cfg.ctx_levAts κ) $$ Hctx
  rw [wp_bind]
  iapply (region_wp (V1 m) (V2 m) (W2_a m) (W2_b m) (V2_ne m) d) $$ [Hst Hxvi Hb Hrest Hts HG HO Hlev]
  isplitr [Hxvi Hb Hrest HG HO Hlev]
  · iintro ⟨Hb, Hub, HO⟩
    ihave Hh := (Entails.of_eq (unscopedBufs_held d (W2 m d))) $$ [Hub]
    · iexact Hub
    iapply (StableHlo.wp_seq 𝒱 none Set.univ d ucRefs (fun _ => pure ⟨⟩) hostOps hostOps_sub hostOps_fresh (W2 m d)) $$ [Hb Hh]
    · isplitl [Hb]; · iexact Hb
      iexact Hh
    iintro ⟨Hb, Hh⟩
    rw [wp_pure]
    imodintro
    rw [hR]
    isplitl [HO Hst]
    · isplitl [HO]; · iexact HO
      iexact Hst
    isplitl [Hh]; · iexact Hh
    isplitl [Hb]; · iexact Hb
    iexact Hts
  isplitl [Hb]; · iexact Hb
  isplitl [Hxvi Hrest HO]
  · isplitl [Hxvi Hrest]
    · rw [unscopedBufs_held d (W1 m d), held_split3, W1_x, W1_v, W1_i, ← held_rest]
      isplitl [Hxvi]; · iexact Hxvi
      iexact Hrest
    iexact HO
  isplitl [Hlev]; · iexact Hlev
  iexact HG

/-! ## What the final state reads -/

/-- What a final state says of device `d`: its buffers hold `W3`. -/
def fq (d : Dev nD) (s' : Phys nD τ sig (Elt F)) : Prop := ∀ b ∈ ucRefs, s'.mem.mem (d, b) = W3 m d b

/-- Buffers held at `W3` are read as `W3` in the final state. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) ucRefs) $$ [HSI H]
  · isplitl [HSI]; · iexact HSI
    iexact H
  ipureintro
  exact fun b hb => h b hb

/-- What the run ends with: the TensorCore's buffers at `W3`, every counter at zero. -/
def QC : PUnit × MemSt nD τ sig (Elt F) → Prop := fun r => (∀ c : Dev nD, ∀ b ∈ ucRefs, r.2.mem (c, b) = W3 m c b) ∧ r.2.sem = fun _ => 0

/-- The program's run: it ends with every counter zero and the TensorCore's buffers at `W3`. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun c => pipeGhost c) (FIN m) (u₀ (F := F)) (sep_elim_left.trans (hu₀ m)) (hmain m ρ) (fq m) (hfin m) (QC m) (fun _ h hz => ⟨h, hz⟩)

end Cert.Argmin

end
-- ==== Proof.Ref.lean ====
/-
  The reference's run: five host operations on the TensorCore, no kernel. What its result holds at the end is the
  host's arg-min of the operand along the rows.
-/
module

public import proofs.«01_k».proof.Defs
public import Idealize.ShloMosaic.Lib.StableHlo.Run
public import proofs.«01_k».proof.Proof.Gen.ReferenceIdeal

@[expose] public section

set_option maxRecDepth 16384

noncomputable section

namespace Cert.ArgminRef

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ TRef.nullary main_call0.v0 (iotaInDim S4x4096x2048 32 1),
    TRef.nullary main_call0.cst (constant S_ .f32 0x7F800000#32),
    TRef.nullary main_call0.c (constantI S_ 32 0#32),
    TRef.quaternary (.of main_arg0) main_call0.v0 main_call0.cst main_call0.c main_call0.v1_0
      (fun x y u v j => (Host.argReduce reducer_argmin_f32_i32 x y u v reducesTo_S4x4096x2048_S4x2048_d1 h_S_ j).1),
    TRef.quaternary (.of main_arg0) main_call0.v0 main_call0.cst main_call0.c main_call0.v1_1
      (fun x y u v j => (Host.argReduce reducer_argmin_f32_i32 x y u v reducesTo_S4x4096x2048_S4x2048_d1 h_S_ j).2) ]

/-- The reference is its operations in a row. -/
theorem main_eq (c : Dev nD) : main (F := F) c = seq ops := rfl

/-- The host's arg-min of `x` along its rows, as pairs: per column, the least entry and its row. -/
def pairs (x : S4x4096x2048.Idx → F .f32) : S4x2048.Idx → F .f32 × BitVec 32 :=
  Host.argReduce reducer_argmin_f32_i32 x (iotaInDim S4x4096x2048 32 1) (constant S_ .f32 0x7F800000#32 : FVec F S_ .f32) (constantI S_ 32 0#32)
    reducesTo_S4x4096x2048_S4x2048_d1 h_S_

/-- The rows alone. -/
def out (x : S4x4096x2048.Idx → F .f32) : S4x2048.Idx → BitVec 32 := fun j => (pairs x j).2

/-- The result at the end. -/
theorem out_eq (V : Valuation τ sig (Elt F)) : after ops V (main_v0 : DevRef τ sig) = out (V (main_arg0 : DevRef τ sig)) := by
  unfold out pairs
  after_results
  rfl

/-- The operand at the end. -/
theorem arg0_eq (V : Valuation τ sig (Elt F)) : after ops V (main_arg0 : DevRef τ sig) = V (main_arg0 : DevRef τ sig) := by
  simp only [after_cons, after_nil]
  rfl

/-- The reference has no scoped buffer. -/
theorem scopedRefs_eq : (Finset.univ.filter fun b : Ref sig .tc => b.isScoped) = ∅ := by decide

/-- The reference has no scoped semaphore. -/
theorem scopedSems_eq : (Finset.univ.filter fun sm : SemLoc sig => sm.isScoped .tc) = ∅ := by decide

/-- The reference's operations touch the TensorCore's buffers only. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..⟩

/-- The reference's run: every buffer ends at what its operations make of the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ArgminRef

end
-- ==== Proof.FirstMin.lean ====
/-
  The first place where a sequence is least, on a range of naturals: the place is unique, and that of a range cut in two
  is found from those of its halves by one comparison. Also the fold along the naturals below a bound.
-/
module

public import Idealize.ShloMosaic.PureOps.Ideal

@[expose] public section

namespace Cert.Argmin

/-! ## A fold along the naturals -/

/-- `f` applied at `0, 1, …, n - 1` in turn, from `a`. -/
def steps {α : Type} (f : α → ℕ → α) (a : α) : ℕ → α
  | 0 => a
  | n + 1 => f (steps f a n) n

/-- The left fold over the naturals below `n`, listed in order. -/
theorem foldl_finRange {α : Type} (f : α → ℕ → α) (a : α) : ∀ n : ℕ, (List.finRange n).foldl (fun r k => f r k.val) a = steps f a n
  | 0 => rfl
  | n + 1 => by
    rw [List.finRange_succ_last, List.foldl_append, List.foldl_map]
    exact congrArg (fun r => f r n) (foldl_finRange f a n)

/-! ## The first least place -/

section
variable {α : Type} [LinearOrder α]

/-- `i` is the first of the places `a, …, b - 1` where `g` is least. -/
structure FirstMin (g : ℕ → α) (a b i : ℕ) : Prop where
  lo : a ≤ i
  hi : i < b
  le : ∀ k, a ≤ k → k < b → g i ≤ g k
  lt : ∀ k, a ≤ k → k < i → g i < g k

variable {g : ℕ → α} {a b c i j : ℕ}

/-- There is only one. -/
theorem FirstMin.unique (h : FirstMin g a b i) (h' : FirstMin g a b j) : i = j := by
  rcases Nat.lt_trichotomy i j with e | e | e
  · exact absurd (h.le j h'.lo h'.hi) (not_le_of_gt (h'.lt i h.lo e))
  · exact e
  · exact absurd (h'.le i h.lo h.hi) (not_le_of_gt (h.lt j h'.lo e))

/-- One place. -/
theorem FirstMin.single (g : ℕ → α) (a : ℕ) : FirstMin g a (a + 1) a :=
  ⟨le_refl a, Nat.lt_succ_self a, fun k h h' => by rw [show k = a by omega], fun k h h' => absurd h (by omega)⟩

/-- The second half holds something strictly smaller. -/
theorem FirstMin.right (h : FirstMin g a b i) (h' : FirstMin g b c j) (e : g j < g i) : FirstMin g a c j := by
  have := h.lo; have := h.hi; have := h'.lo
  refine ⟨by omega, h'.hi, fun k hk hk' => ?_, fun k hk hk' => ?_⟩
  · rcases Nat.lt_or_ge k b with hb | hb
    · exact le_of_lt (lt_of_lt_of_le e (h.le k hk hb))
    · exact h'.le k hb hk'
  · rcases Nat.lt_or_ge k b with hb | hb
    · exact lt_of_lt_of_le e (h.le k hk hb)
    · exact h'.lt k hb hk'

/-- The second half holds nothing strictly smaller. -/
theorem FirstMin.left (h : FirstMin g a b i) (h' : FirstMin g b c j) (e : ¬ g j < g i) : FirstMin g a c i := by
  have := h.lo; have := h.hi; have := h'.lo; have := h'.hi
  refine ⟨h.lo, by omega, fun k hk hk' => ?_, h.lt⟩
  rcases Nat.lt_or_ge k b with hb | hb
  · exact h.le k hk hb
  · exact le_trans (le_of_not_gt e) (h'.le k hb hk')

/-- Only the entries of the range matter. -/
theorem FirstMin.congr {g' : ℕ → α} (h : FirstMin g a b i) (e : ∀ k, k < b → g k = g' k) : FirstMin g' a b i :=
  ⟨h.lo, h.hi, fun k hk hk' => by rw [← e k hk', ← e i h.hi]; exact h.le k hk hk',
    fun k hk hk' => by rw [← e k (hk'.trans h.hi), ← e i h.hi]; exact h.lt k hk hk'⟩

/-- Reading the sequence from a place `o` further on. -/
theorem FirstMin.shift {o n : ℕ} (h : FirstMin (fun k => g (o + k)) 0 n i) : FirstMin g o (o + n) (o + i) := by
  have := h.hi
  refine ⟨by omega, by omega, fun k hk hk' => ?_, fun k hk hk' => ?_⟩
  · have := h.le (k - o) (by omega) (by omega)
    simpa [show o + (k - o) = k by omega] using this
  · have := h.lt (k - o) (by omega) (by omega)
    simpa [show o + (k - o) = k by omega] using this

/-- The minimum of the first `n` entries, from a starting value nothing exceeds, is the entry at the first least place. -/
theorem firstMin_steps (g : ℕ → α) (top : α) (ht : ∀ k, g k ≤ top) : ∀ n : ℕ, 0 < n →
    ∃ i, FirstMin g 0 n i ∧ steps (fun r k => min r (g k)) top n = g i
  | 1, _ => ⟨0, FirstMin.single g 0, min_eq_right (ht 0)⟩
  | n + 2, _ => by
    obtain ⟨i, hi, e⟩ := firstMin_steps g top ht (n + 1) (Nat.succ_pos n)
    show ∃ i, FirstMin g 0 (n + 1 + 1) i ∧ min (steps (fun r k => min r (g k)) top (n + 1)) (g (n + 1)) = g i
    rw [e]
    by_cases h : g (n + 1) < g i
    · exact ⟨n + 1, hi.right (FirstMin.single g (n + 1)) h, min_eq_right (le_of_lt h)⟩
    · exact ⟨i, hi.left (FirstMin.single g (n + 1)) h, min_eq_left (le_of_not_gt h)⟩

/-- The least of the numbers `k` with `g k = g i`, where every other place counts as `m`, is `i`. -/
theorem least_place (g : ℕ → α) (m top : ℕ) (hm : m ≤ top) (h : FirstMin g 0 m i) : ∀ n : ℕ, n ≤ m →
    steps (fun r k => min r (if g k = g i then k else m)) top n = if i < n then i else if n = 0 then top else m
  | 0, _ => by simp [steps]
  | n + 1, hn => by
    have := h.hi
    show min (steps (fun r k => min r (if g k = g i then k else m)) top n) (if g n = g i then n else m) = _
    rw [least_place g m top hm h n (by omega)]
    rcases Nat.lt_trichotomy n i with e | e | e
    · rw [if_neg (ne_of_gt (h.lt n (Nat.zero_le n) e))]
      simp only [show ¬ i < n by omega, show ¬ i < n + 1 by omega, if_false, Nat.succ_ne_zero]
      split <;> omega
    · subst e
      simp only [if_true, Nat.lt_irrefl, if_false, Nat.lt_succ_self]
      split <;> omega
    · simp only [e, show i < n + 1 by omega, if_true]
      split <;> omega
end

end Cert.Argmin
-- ==== Proof.Scalars.lean ====
/-
  The scalar operations of the two programs over the extended reals and over small 32-bit numbers: the selects on a
  comparison as plain case distinctions, the infinity both start from, the order of small numbers.
-/
module

public import Idealize.ShloMosaic.PureOps.Ideal.Laws
public import proofs.«01_k».proof.Proof.FirstMin

@[expose] public section

noncomputable section

namespace Cert.Argmin

open Idealize.ShloMosaic

/-- The bit pattern both programs start from denotes the top element. -/
theorem inf_eq_top : Ideal.ofBits .f32 0x7F800000#32 = (⊤ : EReal) := by simp [Ideal.ofBits, Ideal.ieee]

section
variable {α : Type} (x y : α)

/-- A select on "less than". -/
theorem select_olt (a b : EReal) : Scalar.select (FloatOps.cmpf (F := Ideal) (φ := .f32) .olt a b) x y = if a < b then x else y := by
  by_cases h : a < b <;> simp [Scalar.select, Ideal.cmpf_def, Ideal.cmp, h]

/-- A select on "at most". -/
theorem select_ole (a b : EReal) : Scalar.select (FloatOps.cmpf (F := Ideal) (φ := .f32) .ole a b) x y = if a ≤ b then x else y := by
  by_cases h : a ≤ b <;> simp [Scalar.select, Ideal.cmpf_def, Ideal.cmp, h]

/-- A select on "equal". -/
theorem select_oeq (a b : EReal) : Scalar.select (FloatOps.cmpf (F := Ideal) (φ := .f32) .oeq a b) x y = if a = b then x else y := by
  by_cases h : a = b <;> simp [Scalar.select, Ideal.cmpf_def, Ideal.cmp, h]
end

/-- Small numbers are compared as signed ones as they are as naturals. -/
theorem slt_ofNat (a b : ℕ) (ha : a < 2 ^ 31) (hb : b < 2 ^ 31) : (BitVec.ofNat 32 a).slt (BitVec.ofNat 32 b) = decide (a < b) := by
  have e : ∀ n : ℕ, n < 2 ^ 31 → (BitVec.ofNat 32 n).toInt = (n : ℤ) := fun n hn => by
    rw [BitVec.toInt_eq_toNat_of_lt] <;> rw [BitVec.toNat_ofNat, Nat.mod_eq_of_lt (by omega)]; omega
  unfold BitVec.slt
  rw [e a ha, e b hb]
  simp

/-- And so is their signed minimum. -/
theorem minsi_ofNat (a b : ℕ) (ha : a < 2 ^ 31) (hb : b < 2 ^ 31) : IntOp.minsi (BitVec.ofNat 32 a) (BitVec.ofNat 32 b) = BitVec.ofNat 32 (min a b) := by
  unfold IntOp.minsi
  rw [slt_ofNat a b ha hb]
  by_cases h : a < b
  · simp [h, Nat.min_eq_left (Nat.le_of_lt h)]
  · simp [h, Nat.min_eq_right (Nat.le_of_not_lt h)]

end Cert.Argmin

end
-- ==== Proof.ScValue.lean ====
/-
  What a column's scan on the tiles ends with, over the extended reals: its least entry and the first row holding it,
  or, where no entry is below the top element, the top element and row zero.
-/
module

public import proofs.«01_k».proof.Proof.Tile
public import proofs.«01_k».proof.Proof.Scalars

@[expose] public section

noncomputable section

namespace Cert.Argmin

open Idealize.ShloMosaic

/-- The scan of the `n` rows from row 2304 on of a sequence `g`. -/
theorem cell_spec (g : ℕ → EReal) : ∀ n : ℕ,
    ((∀ k, k < n → g (2304 + k) = ⊤) ∧ cell (F := Ideal) (fun k => g (2304 + k)) n = ((⊤ : EReal), 0#32))
      ∨ ∃ i, FirstMin g 2304 (2304 + n) i ∧ g i < ⊤ ∧ cell (F := Ideal) (fun k => g (2304 + k)) n = (g i, BitVec.ofNat 32 i)
  | 0 => .inl ⟨fun k h => absurd h (Nat.not_lt_zero k), Prod.ext inf_eq_top rfl⟩
  | n + 1 => by
    have e : cell (F := Ideal) (fun k => g (2304 + k)) (n + 1)
        = (if g (2304 + n) < (cell (F := Ideal) (fun k => g (2304 + k)) n).1 then g (2304 + n) else (cell (F := Ideal) (fun k => g (2304 + k)) n).1,
          if g (2304 + n) < (cell (F := Ideal) (fun k => g (2304 + k)) n).1 then BitVec.ofNat 32 (2304 + n) else (cell (F := Ideal) (fun k => g (2304 + k)) n).2) :=
      Prod.ext (select_olt _ _ _ _) (select_olt _ _ _ _)
    rw [e]
    rcases cell_spec g n with ⟨ht, h⟩ | ⟨i, hi, hit, h⟩
    · rw [h]
      by_cases hg : g (2304 + n) < ⊤
      · refine .inr ⟨2304 + n, ⟨by omega, by omega, fun k hk hk' => ?_, fun k hk hk' => ?_⟩, hg, by simp only [hg, if_true]⟩
        · rcases Nat.lt_or_ge k (2304 + n) with hn | hn
          · have := ht (k - 2304) (by omega)
            rw [show 2304 + (k - 2304) = k by omega] at this
            rw [this]; exact le_top
          · rw [show k = 2304 + n by omega]
        · have := ht (k - 2304) (by omega)
          rw [show 2304 + (k - 2304) = k by omega] at this
          rw [this]; exact hg
      · refine .inl ⟨fun k hk => ?_, by simp only [hg, if_false]⟩
        rcases Nat.lt_or_ge k n with hn | hn
        · exact ht k hn
        · rw [show k = n by omega]; exact not_lt_top_iff.mp hg
    · rw [h]
      by_cases hg : g (2304 + n) < g i
      · exact .inr ⟨2304 + n, hi.right (FirstMin.single g _) hg, hg.trans hit, by simp only [hg, if_true]⟩
      · exact .inr ⟨i, hi.left (FirstMin.single g _) hg, hit, by simp only [hg, if_false]⟩

end Cert.Argmin

end
-- ==== Proof.TcBlock.lean ====
/-
  What the TensorCore kernel computes from one block of 256 rows, over the extended reals: per column the least entry and
  the first row of the block holding it, the block's rows numbered from where it lies in the array.
-/
module

public import proofs.«01_k».proof.Proof.Tc
public import proofs.«01_k».proof.Proof.Scalars
public import Idealize.ShloMosaic.PureOps.Reduce

@[expose] public section

noncomputable section

namespace Cert.Argmin

open Cert.KernelIdeal Cert.KernelIdeal.Gen
open Idealize.ShloMosaic

/-- Entry `(r, l)` of a block (each coordinate read modulo its bound). -/
def atB (r l : ℕ) : S1x256x512.Idx := fun
  | 0 => ⟨0, Nat.one_pos⟩ | 1 => ⟨r % 256, Nat.mod_lt _ (by decide)⟩ | 2 => ⟨l % 512, Nat.mod_lt _ (by decide)⟩

/-- Column `l` of a block. -/
def blkCol (v : FVec Ideal S1x256x512 .f32) (l : ℕ) : ℕ → EReal := fun r => v (atB r l)

/-- A block without its unit axis. -/
theorem pay1_apply (v : FVec Ideal S1x256x512 .f32) (z : S256x512.Idx) : k1_pay1 (F := Ideal) v z = blkCol v (z 1).val (z 0).val := by
  show shapeCast S256x512 v _ z = _
  rw [shapeCast_dropUnit_apply ![256, 512]]
  refine congrArg v (funext fun a => Fin.ext ?_)
  match a with
  | ⟨0, _⟩ => rfl
  | ⟨1, _⟩ => exact (Nat.mod_eq_of_lt (z 0).isLt).symm
  | ⟨2, _⟩ => exact (Nat.mod_eq_of_lt (z 1).isLt).symm

/-- A reduction down the rows of a block, as a fold along the naturals. -/
theorem rows_fold {α : Type} (f : α → α → α) (init : α) (x : S256x512.Idx → α) (j : S512.Idx) (w : ℕ → α)
    (hw : ∀ r : Fin 256, x (Shape.pair r ((reduces_S256x512_S512 : S256x512.Reduces [0] S512).col j)) = w r.val) :
    reduceFold reduces_S256x512_S512 f init x j = steps (fun a k => f a (w k)) init 256 := by
  rw [reduceFold_rows, ← foldl_finRange]
  exact List.foldl_ext _ _ _ fun a r _ => congrArg (f a) (hw r)

/-- The block's minimum in a column, as a fold down it. -/
theorem pay2_apply (v : FVec Ideal S1x256x512 .f32) (y : S1x512.Idx) :
    k1_pay2 (F := Ideal) v y = steps (fun r k => min r (blkCol v (y 1).val k)) (⊤ : EReal) 256 := by
  show shapeCast S1x512 (multiReduction .minimumf [0] S512 (k1_pay1 (F := Ideal) v) 0x7F800000#32 reduces_S256x512_S512 (.inl rfl) rfl) shapeCasts_S512_S1x512 y = _
  rw [shapeCast_addUnit_apply ![512]]
  refine (congrFun (multiReduction_minimumf_eq_reduceFold (k1_pay1 (F := Ideal) v) _ _ _ _) _).trans ?_
  refine (rows_fold _ _ _ _ (blkCol v (y 1).val) fun r => pay1_apply v _).trans ?_
  rw [Ideal.ofBits_def, inf_eq_top]
  rfl

/-- The row found in a column, before the block's place is added: the least of the rows holding the minimum. -/
theorem pay3_apply (i : grid1.Coords) (v : FVec Ideal S1x256x512 .f32) (y : S1x512.Idx) :
    k1_pay3 (F := Ideal) i v y
      = steps (fun r k => IntOp.minsi r (BitVec.ofNat 32 (if blkCol v (y 1).val k = k1_pay2 (F := Ideal) v y then k else 256))) (BitVec.ofNat 32 2147483647) 256
        + BitVec.ofNat 32 (i 2).val * 256#32 := by
  show (shapeCast S1x512 (multiReductionI .minsi [0] S512 (select (cmpf .oeq (k1_pay1 (F := Ideal) v) (broadcastTo S256x512 (k1_pay2 (F := Ideal) v) broadcasts_S1x512_S256x512))
      (iota .tc S256x512 32 [0] iota_S256x512_d0_w32) (broadcast S256x512 256#32)) 2147483647#32 reduces_S256x512_S512 rfl) shapeCasts_S512_S1x512 y : BitVec 32)
    + BitVec.ofNat 32 (i 2).val * 256#32 = _
  refine congrArg (· + BitVec.ofNat 32 (i 2).val * 256#32) ?_
  rw [shapeCast_addUnit_apply ![512]]
  refine (congrFun (multiReductionI_eq_reduceFold .minsi _ _ _ _) _).trans ?_
  refine rows_fold IntOp.minsi _ _ _ (fun k => BitVec.ofNat 32 (if blkCol v (y 1).val k = k1_pay2 (F := Ideal) v y then k else 256)) fun r => ?_
  have e : broadcastTo S256x512 (k1_pay2 (F := Ideal) v) broadcasts_S1x512_S256x512
      (Shape.pair r ((reduces_S256x512_S512 : S256x512.Reduces [0] S512).col fun a => y a.succ)) = k1_pay2 (F := Ideal) v y := by
    refine broadcastTo_apply _ _ _ y fun a => ?_
    match a with
    | ⟨0, _⟩ => have := (y 0).isLt; show (y 0).val = 0; have h : (y 0).val < 1 := this; omega
    | ⟨1, _⟩ => rfl
  show Scalar.select (FloatOps.cmpf (F := Ideal) (φ := .f32) .oeq (k1_pay1 (F := Ideal) v _) (broadcastTo S256x512 (k1_pay2 (F := Ideal) v) broadcasts_S1x512_S256x512 _))
    (iota .tc S256x512 32 [0] iota_S256x512_d0_w32 _) 256#32 = _
  rw [e, pay1_apply, iota_single_apply, select_oeq]
  show (if blkCol v (y 1).val r.val = k1_pay2 (F := Ideal) v y then BitVec.ofNat 32 r.val else 256#32) = _
  split <;> rfl

/-- The least of the rows of a block holding its minimum, as 32-bit numbers. -/
theorem first_row (g : ℕ → EReal) (p : ℕ) (h : FirstMin g 0 256 p) :
    steps (fun r k => IntOp.minsi r (BitVec.ofNat 32 (if g k = g p then k else 256))) (BitVec.ofNat 32 2147483647) 256 = BitVec.ofNat 32 p := by
  have key : ∀ n : ℕ, n ≤ 256 → steps (fun r k => IntOp.minsi r (BitVec.ofNat 32 (if g k = g p then k else 256))) (BitVec.ofNat 32 2147483647) n
      = BitVec.ofNat 32 (if p < n then p else if n = 0 then 2147483647 else 256) := by
    have hp := h.hi
    intro n
    induction n with
    | zero => intro _; rfl
    | succ n ih =>
      intro hn
      have e := least_place g 256 2147483647 (by norm_num) h
      show IntOp.minsi (steps _ _ n) _ = _
      rw [ih (by omega), minsi_ofNat _ _ (by split; omega; split <;> omega) (by split <;> omega), ← e n (by omega), ← e (n + 1) hn]
      rfl
  rw [key 256 le_rfl, if_pos h.hi]

/-- One block: the least entry of a column and the array's first row holding it, block `n` of rows starting at row `256·n`. -/
theorem block_spec (i : grid1.Coords) (v : FVec Ideal S1x256x512 .f32) (y : S1x512.Idx) :
    ∃ p, FirstMin (blkCol v (y 1).val) 0 256 p ∧ k1_pay2 (F := Ideal) v y = blkCol v (y 1).val p
      ∧ k1_pay3 (F := Ideal) i v y = BitVec.ofNat 32 (256 * (i 2).val + p) := by
  obtain ⟨p, hp, e⟩ := firstMin_steps (blkCol v (y 1).val) ⊤ (fun _ => le_top) 256 (Nat.succ_pos 255)
  have e2 := (pay2_apply v y).trans e
  refine ⟨p, hp, e2, ?_⟩
  rw [pay3_apply, e2, first_row _ p hp]
  apply BitVec.eq_of_toNat_eq
  simp only [BitVec.toNat_add, BitVec.toNat_mul, BitVec.toNat_ofNat]
  have h2 : (i 2).val < 9 := (i 2).isLt
  have := hp.hi
  omega

end Cert.Argmin

end
-- ==== Proof.TcValue.lean ====
/-
  What the TensorCore kernel leaves in its two results, over the extended reals: per column the least of rows 0 … 2303
  and the first row holding it.
-/
module

public import proofs.«01_k».proof.Proof.TcBlock
public import Idealize.ShloMosaic.Lib.Pipeline.Value

@[expose] public section

set_option maxRecDepth 16384

noncomputable section

namespace Cert.Argmin

open Cert.KernelIdeal Cert.KernelIdeal.Gen
open Idealize.ShloMosaic Idealize.ShloMosaic.TcCoe
open Idealize.ShloMosaic.Pipeline (Dat Cfg Window)

/-! ## The grid: 4 batches by 4 groups of 512 columns by 9 blocks of 256 rows -/

/-- A point's batch and its group of columns. -/
theorem coords_zero : ∀ t : Fin grid1.N, (grid1.coords t 0).val = t.val / 36 := by decide +kernel

/-- The column group of a point. -/
theorem coords_one : ∀ t : Fin grid1.N, (grid1.coords t 1).val = t.val / 9 % 4 := by decide +kernel

/-- Where each window's block of point `t` lies. -/
theorem index_0 : ∀ t : Fin grid1.N, win1_0.index t = ![t.val / 36, t.val % 9, t.val / 9 % 4] := by decide +kernel

/-- The block of the first result at a point. -/
theorem index_1 : ∀ t : Fin grid1.N, win1_1.index t = ![t.val / 36, 0, t.val / 9 % 4] := by decide +kernel

/-- The block of the second result at a point. -/
theorem index_2 : ∀ t : Fin grid1.N, win1_2.index t = ![t.val / 36, 0, t.val / 9 % 4] := by decide +kernel

/-- There are 144 points. -/
theorem pt_lt (t : Fin cfg1.N) : t.val < 144 := lt_of_lt_of_eq t.isLt N_1

/-- Column `c` of batch `b`. -/
def colOf (fx : S4x4096x2048.Idx → EReal) (b c : ℕ) : ℕ → EReal := fun k => fx (at3 b k c)

/-- The block of point `t` is rows `256·(t mod 9)` on, 512 columns. -/
theorem blkCol_xBlk (fx : FVec Ideal S4x4096x2048 .f32) (t : Fin cfg1.N) (l r : ℕ) (hl : l < 512) (hr : r < 256) :
    blkCol (xBlk (F := Ideal) fx t) l r = colOf fx (t.val / 36) (t.val / 9 % 4 * 512 + l) (256 * (t.val % 9) + r) := by
  have ht := pt_lt t
  unfold blkCol colOf
  show ((cfg1.win 0).blk t).view.read (Elt Ideal) fx (atB r l) = _
  rw [View.read_apply]
  refine congrArg fx (funext fun a => Fin.ext ?_)
  match a with
  | ⟨0, _⟩ =>
    show win1_0.index t 0 * 1 + 1 * 0 = t.val / 36 % 4
    rw [index_0]; show t.val / 36 * 1 + 1 * 0 = t.val / 36 % 4; omega
  | ⟨1, _⟩ =>
    show win1_0.index t 1 * 256 + 1 * (r % 256) = (256 * (t.val % 9) + r) % 4096
    rw [index_0]; show t.val % 9 * 256 + 1 * (r % 256) = (256 * (t.val % 9) + r) % 4096; omega
  | ⟨2, _⟩ =>
    show win1_0.index t 2 * 512 + 1 * (l % 512) = (t.val / 9 % 4 * 512 + l) % 2048
    rw [index_0]; show t.val / 9 % 4 * 512 + 1 * (l % 512) = (t.val / 9 % 4 * 512 + l) % 2048; omega

/-- The block's minimum and its row, read in the column it is a part of. -/
theorem block_col (fx : FVec Ideal S4x4096x2048 .f32) (t : Fin cfg1.N) (y : S1x512.Idx) :
    ∃ i, FirstMin (colOf fx (t.val / 36) (t.val / 9 % 4 * 512 + (y 1).val)) (256 * (t.val % 9)) (256 * (t.val % 9) + 256) i
      ∧ k1_pay2 (F := Ideal) (xBlk (F := Ideal) fx t) y = colOf fx (t.val / 36) (t.val / 9 % 4 * 512 + (y 1).val) i
      ∧ k1_pay3 (F := Ideal) (grid1.coords t) (xBlk (F := Ideal) fx t) y = BitVec.ofNat 32 i := by
  obtain ⟨p, hp, e2, e3⟩ := block_spec (grid1.coords t) (xBlk (F := Ideal) fx t) y
  have hy : (y 1).val < 512 := (y 1).isLt
  have h := (hp.congr fun k hk => blkCol_xBlk fx t (y 1).val k hy hk).shift
  exact ⟨_, h, e2.trans (blkCol_xBlk fx t (y 1).val p hy hp.hi), by rw [e3, coords_two]⟩

/-! ## The running minimum -/

/-- The first block of a column group. -/
theorem first_1 (v : FVec Ideal S1x256x512 .f32) (y : S1x1x512.Idx) : k1_pay4 (F := Ideal) v y = k1_pay2 (F := Ideal) v fun a => y a.succ := by
  show shapeCast S1x1x512 (k1_pay2 (F := Ideal) v) shapeCasts_S1x512_S1x1x512 y = _
  rw [shapeCast_addUnit_apply ![1, 512]]

/-- The rows of the first block's minima. -/
theorem first_2 (i : grid1.Coords) (v : FVec Ideal S1x256x512 .f32) (y : S1x1x512.Idx) : k1_pay5 (F := Ideal) i v y = k1_pay3 (F := Ideal) i v fun a => y a.succ := by
  show shapeCast S1x1x512 (k1_pay3 (F := Ideal) i v) shapeCasts_S1x512_S1x1x512 y = _
  rw [shapeCast_addUnit_apply ![1, 512]]

/-- The running minimum read without its unit axis. -/
theorem drop_unit {α : Type} (w : S1x1x512.Idx → α) (h : S1x1x512.ShapeCasts S1x512) (y : S1x1x512.Idx) : shapeCast S1x512 w h (fun a => y a.succ) = w y := by
  refine (shapeCast_dropUnit_apply ![1, 512] w h _).trans (congrArg w (funext fun a => Fin.ext ?_))
  match a with
  | ⟨0, _⟩ => have h : (y 0).val < 1 := (y 0).isLt; show 0 = (y 0).val; omega
  | ⟨1, _⟩ => rfl
  | ⟨2, _⟩ => rfl

/-- A later block. -/
theorem next_1 (v : FVec Ideal S1x256x512 .f32) (w : FVec Ideal S1x1x512 .f32) (y : S1x1x512.Idx) :
    k1_pay8 (F := Ideal) v w y = if k1_pay2 (F := Ideal) v (fun a => y a.succ) < (w y : EReal) then k1_pay2 (F := Ideal) v (fun a => y a.succ) else w y := by
  show shapeCast S1x1x512 (select (k1_pay7 (F := Ideal) v w) (k1_pay2 (F := Ideal) v) (k1_pay6 (F := Ideal) w)) shapeCasts_S1x512_S1x1x512 y = _
  rw [shapeCast_addUnit_apply ![1, 512]]
  show Scalar.select (FloatOps.cmpf (F := Ideal) (φ := .f32) .olt (k1_pay2 (F := Ideal) v _) (shapeCast S1x512 w shapeCasts_S1x1x512_S1x512 _)) (k1_pay2 (F := Ideal) v _) (shapeCast S1x512 w shapeCasts_S1x1x512_S1x512 _) = _
  rw [drop_unit, select_olt]

/-- The rows after a later block. -/
theorem next_2 (i : grid1.Coords) (v : FVec Ideal S1x256x512 .f32) (w : FVec Ideal S1x1x512 .f32) (n : IVec S1x1x512 32) (y : S1x1x512.Idx) :
    k1_pay9 (F := Ideal) i v w n y = if k1_pay2 (F := Ideal) v (fun a => y a.succ) < (w y : EReal) then k1_pay3 (F := Ideal) i v (fun a => y a.succ) else n y := by
  show shapeCast S1x1x512 (select (k1_pay7 (F := Ideal) v w) (k1_pay3 (F := Ideal) i v) (shapeCast S1x512 n shapeCasts_S1x1x512_S1x512)) shapeCasts_S1x512_S1x1x512 y = _
  rw [shapeCast_addUnit_apply ![1, 512]]
  show Scalar.select (FloatOps.cmpf (F := Ideal) (φ := .f32) .olt (k1_pay2 (F := Ideal) v _) (shapeCast S1x512 w shapeCasts_S1x1x512_S1x512 _)) (k1_pay3 (F := Ideal) i v _) (shapeCast S1x512 n shapeCasts_S1x1x512_S1x512 _) = _
  rw [drop_unit, drop_unit, select_olt]

/-- After point `t` the running minimum is that of the rows up to its block's end. -/
theorem acc_spec (fx : FVec Ideal S4x4096x2048 .f32) (y : S1x1x512.Idx) : ∀ (n : ℕ) (t : Fin cfg1.N), t.val % 9 = n →
    ∃ i, FirstMin (colOf fx (t.val / 36) (t.val / 9 % 4 * 512 + (y 2).val)) 0 (256 * n + 256) i
      ∧ (acc (F := Ideal) fx t.val t.isLt).1 y = colOf fx (t.val / 36) (t.val / 9 % 4 * 512 + (y 2).val) i
      ∧ (acc (F := Ideal) fx t.val t.isLt).2 y = BitVec.ofNat 32 i
  | 0, t, h => by
    obtain ⟨i, hi, e1, e2⟩ := block_col fx t fun a => y a.succ
    rw [acc_first _ t h]
    rw [h] at hi
    dsimp only
    exact ⟨i, hi, (first_1 _ y).trans e1, (first_2 _ _ y).trans e2⟩
  | n + 1, t, h => by
    have ht := pt_lt t
    have hlt : t.val - 1 < cfg1.N := lt_of_le_of_lt (Nat.sub_le _ _) t.isLt
    obtain ⟨i, hi, e1, e2⟩ := acc_spec fx y n ⟨t.val - 1, hlt⟩ (by show (t.val - 1) % 9 = n; omega)
    obtain ⟨j, hj, f1, f2⟩ := block_col fx t fun a => y a.succ
    simp only [show (t.val - 1) / 36 = t.val / 36 by omega, show (t.val - 1) / 9 = t.val / 9 by omega] at hi e1 e2
    rw [acc_next _ t (by omega) hlt]
    rw [h] at hj
    dsimp only
    rw [next_1, next_2, e1, e2, f1, f2]
    by_cases hlt' : colOf fx (t.val / 36) (t.val / 9 % 4 * 512 + (y 2).val) j < colOf fx (t.val / 36) (t.val / 9 % 4 * 512 + (y 2).val) i
    · exact ⟨j, hi.right (b := 256 * n + 256) hj hlt', if_pos hlt', if_pos hlt'⟩
    · exact ⟨i, hi.left (b := 256 * n + 256) hj hlt', if_neg hlt', if_neg hlt'⟩

/-! ## The two result arrays -/

/-- The last point of the column group that entry `z` is in, and `z`'s lane there. -/
def ptOf (z : S4x1x2048.Idx) : Fin cfg1.N := ⟨((z 0).val * 4 + (z 2).val / 512) * 9 + 8, by
  have h0 : (z 0).val < 4 := (z 0).isLt
  have h2 : (z 2).val < 2048 := (z 2).isLt
  exact lt_of_lt_of_eq (by omega) N_1.symm⟩
/-- The lane of entry `z` in its column group. -/
def laneOf (z : S4x1x2048.Idx) : S1x1x512.Idx := fun
  | 0 => ⟨0, Nat.one_pos⟩ | 1 => ⟨0, Nat.one_pos⟩ | 2 => ⟨(z 2).val % 512, Nat.mod_lt _ (by decide)⟩

section
variable (V : (c : Dev nD) → (b : Ref sig .tc) → Buf (Elt Ideal) ((c : Thread nD τ).loc b)) (c : Dev nD)

/-- The running minimum after a point. -/
def accT (fx : FVec Ideal S4x4096x2048 .f32) (t : Fin cfg1.N) : Vec Ideal S1x1x512 .f32 × Vec Ideal S1x1x512 .i32 := acc (F := Ideal) fx t.val t.isLt

/-- What the two arrays end with. -/
def resF : S4x1x2048.Idx → EReal := fun z => (accT (V c main_arg0) (ptOf z)).1 (laneOf z)
/-- What the array of rows ends with. -/
def resI : S4x1x2048.Idx → BitVec 32 := fun z => (accT (V c main_arg0) (ptOf z)).2 (laneOf z)

/-- An entry of the block of the last point of a column group names that point and its lane. -/
theorem pt_lane (t : Fin cfg1.N) (ht8 : t.val % 9 = 8) (z : S4x1x2048.Idx) (y : S1x1x512.Idx) (h0 : (z 0).val = t.val / 36) (h2 : (z 2).val = t.val / 9 % 4 * 512 + (y 2).val) :
    ptOf z = t ∧ laneOf z = y := by
  have ht := pt_lt t
  have hy : (y 2).val < 512 := (y 2).isLt
  constructor
  · apply Fin.ext
    show ((z 0).val * 4 + (z 2).val / 512) * 9 + 8 = t.val
    omega
  · funext a
    apply Fin.ext
    match a with
    | ⟨0, _⟩ => have h : (y 0).val < 1 := (y 0).isLt; show 0 = (y 0).val; omega
    | ⟨1, _⟩ => have h : (y 1).val < 1 := (y 1).isLt; show 0 = (y 1).val; omega
    | ⟨2, _⟩ => show (z 2).val % 512 = (y 2).val; omega

/-- The array of minima. -/
theorem arr_1 : (dat (F := Ideal) V c).arrAt 1 cfg1.N = resF V c := by
  refine (dat (F := Ideal) V c).arrAt_eq_of_cover 1 (resF V c) (fun t hf => ?_) fun z => ⟨ptOf z, ?_, ?_⟩
  · have h8 := (flush1_1 t).mp hf
    funext y
    rw [View.read_apply]
    obtain ⟨e, e'⟩ := pt_lane t h8 (((cfg1.win 1).blk t).view.emb y) y
      (by show win1_1.index t 0 * 1 + 1 * (y 0).val = _; rw [index_1]; have h : (y 0).val < 1 := (y 0).isLt; show t.val / 36 * 1 + 1 * (y 0).val = _; omega)
      (by show win1_1.index t 2 * 512 + 1 * (y 2).val = _; rw [index_1]; show t.val / 9 % 4 * 512 + 1 * (y 2).val = _; omega)
    unfold resF
    rw [e, e']
    rfl
  · exact (flush1_1 _).mpr (by show (((z 0).val * 4 + (z 2).val / 512) * 9 + 8) % 9 = 8; omega)
  · show z ∈ ((View.whole main_v1_0).slice (win1_1.rect (ptOf z))).set
    rw [View.set_slice_whole, Rect.mem_set_unit]
    have h0 : (z 0).val < 4 := (z 0).isLt
    have h1 : (z 1).val < 1 := (z 1).isLt
    have h2 : (z 2).val < 2048 := (z 2).isLt
    have hp : (ptOf z).val = ((z 0).val * 4 + (z 2).val / 512) * 9 + 8 := rfl
    intro a
    match a with
    | ⟨0, _⟩ =>
      show win1_1.index (ptOf z) 0 * 1 ≤ (z 0).val ∧ (z 0).val < win1_1.index (ptOf z) 0 * 1 + 1
      rw [index_1]; show (ptOf z).val / 36 * 1 ≤ (z 0).val ∧ (z 0).val < (ptOf z).val / 36 * 1 + 1; omega
    | ⟨1, _⟩ =>
      show win1_1.index (ptOf z) 1 * 1 ≤ (z 1).val ∧ (z 1).val < win1_1.index (ptOf z) 1 * 1 + 1
      rw [index_1]; show 0 * 1 ≤ (z 1).val ∧ (z 1).val < 0 * 1 + 1; omega
    | ⟨2, _⟩ =>
      show win1_1.index (ptOf z) 2 * 512 ≤ (z 2).val ∧ (z 2).val < win1_1.index (ptOf z) 2 * 512 + 512
      rw [index_1]; show (ptOf z).val / 9 % 4 * 512 ≤ (z 2).val ∧ (z 2).val < (ptOf z).val / 9 % 4 * 512 + 512; omega

/-- The array of their rows. -/
theorem arr_2 : (dat (F := Ideal) V c).arrAt 2 cfg1.N = resI V c := by
  refine (dat (F := Ideal) V c).arrAt_eq_of_cover 2 (resI V c) (fun t hf => ?_) fun z => ⟨ptOf z, ?_, ?_⟩
  · have h8 := (flush1_2 t).mp hf
    funext y
    rw [View.read_apply]
    obtain ⟨e, e'⟩ := pt_lane t h8 (((cfg1.win 2).blk t).view.emb y) y
      (by show win1_2.index t 0 * 1 + 1 * (y 0).val = _; rw [index_2]; have h : (y 0).val < 1 := (y 0).isLt; show t.val / 36 * 1 + 1 * (y 0).val = _; omega)
      (by show win1_2.index t 2 * 512 + 1 * (y 2).val = _; rw [index_2]; show t.val / 9 % 4 * 512 + 1 * (y 2).val = _; omega)
    unfold resI
    rw [e, e']
    rfl
  · exact (flush1_2 _).mpr (by show (((z 0).val * 4 + (z 2).val / 512) * 9 + 8) % 9 = 8; omega)
  · show z ∈ ((View.whole main_v1_1).slice (win1_2.rect (ptOf z))).set
    rw [View.set_slice_whole, Rect.mem_set_unit]
    have h0 : (z 0).val < 4 := (z 0).isLt
    have h1 : (z 1).val < 1 := (z 1).isLt
    have h2 : (z 2).val < 2048 := (z 2).isLt
    have hp : (ptOf z).val = ((z 0).val * 4 + (z 2).val / 512) * 9 + 8 := rfl
    intro a
    match a with
    | ⟨0, _⟩ =>
      show win1_2.index (ptOf z) 0 * 1 ≤ (z 0).val ∧ (z 0).val < win1_2.index (ptOf z) 0 * 1 + 1
      rw [index_2]; show (ptOf z).val / 36 * 1 ≤ (z 0).val ∧ (z 0).val < (ptOf z).val / 36 * 1 + 1; omega
    | ⟨1, _⟩ =>
      show win1_2.index (ptOf z) 1 * 1 ≤ (z 1).val ∧ (z 1).val < win1_2.index (ptOf z) 1 * 1 + 1
      rw [index_2]; show 0 * 1 ≤ (z 1).val ∧ (z 1).val < 0 * 1 + 1; omega
    | ⟨2, _⟩ =>
      show win1_2.index (ptOf z) 2 * 512 ≤ (z 2).val ∧ (z 2).val < win1_2.index (ptOf z) 2 * 512 + 512
      rw [index_2]; show (ptOf z).val / 9 % 4 * 512 ≤ (z 2).val ∧ (z 2).val < (ptOf z).val / 9 % 4 * 512 + 512; omega

/-- In each column: the least of the first 2304 rows, and the first row holding it. -/
theorem res_spec (z : S4x1x2048.Idx) :
    ∃ i, FirstMin (colOf (V c main_arg0) (z 0).val (z 2).val) 0 2304 i ∧ resF V c z = colOf (V c main_arg0) (z 0).val (z 2).val i ∧ resI V c z = BitVec.ofNat 32 i := by
  have h0 : (z 0).val < 4 := (z 0).isLt
  have h2 : (z 2).val < 2048 := (z 2).isLt
  have hp : (ptOf z).val = ((z 0).val * 4 + (z 2).val / 512) * 9 + 8 := rfl
  have hl : (laneOf z 2).val = (z 2).val % 512 := rfl
  obtain ⟨i, hi, e1, e2⟩ := acc_spec (V c main_arg0) (laneOf z) 8 (ptOf z) (by omega)
  have h3 : (ptOf z).val / 36 = (z 0).val := by omega
  have h4 : (ptOf z).val / 9 % 4 * 512 + (laneOf z 2).val = (z 2).val := by omega
  rw [h3, h4] at hi e1
  exact ⟨i, hi, e1, e2⟩
end

end Cert.Argmin

end
-- ==== Proof.RefValue.lean ====
/-
  What the reference computes, over the extended reals: in each column, the first row where it is least.
-/
module

public import proofs.«01_k».proof.Proof.Ref
public import proofs.«01_k».proof.Proof.Cell
public import proofs.«01_k».proof.Proof.Scalars

@[expose] public section

noncomputable section

namespace Cert.ArgminRef

open Cert.ReferenceIdeal Cert.ReferenceIdeal.Gen
open Idealize.ShloMosaic
open Cert.Argmin (FirstMin steps foldl_finRange slt_ofNat at3)

/-- One step of the reduction, from a pair to the entry of row `n`. -/
def step (g : ℕ → EReal) (p : EReal × BitVec 32) (n : ℕ) : EReal × BitVec 32 :=
  reducer_argmin_f32_i32 (F := Ideal) p (g n, BitVec.ofNat 32 n)

/-- A step in plain words: the earlier entry wins where it is smaller, and on equality where its row is smaller. -/
theorem step_eq (g : ℕ → EReal) (a : EReal) (i n : ℕ) (hi : i < 2 ^ 31) (hn : n < 2 ^ 31) :
    step g (a, BitVec.ofNat 32 i) n = (if a < g n then a else g n, if a < g n ∨ (a = g n ∧ i < n) then BitVec.ofNat 32 i else BitVec.ofNat 32 n) := by
  unfold step reducer_argmin_f32_i32
  by_cases h : a < g n
  · have e : ∀ b : BitVec 1, 1#1 ||| b = 1#1 := by decide
    simp [h, Scalar.select, Ideal.cmpf_def, Ideal.cmp, IntOp.ori, e]
  · by_cases h' : a = g n
    · by_cases h'' : i < n <;> simp [h', h'', slt_ofNat i n hi hn, Scalar.select, Ideal.cmpf_def, Ideal.cmp, IntOp.ori, IntOp.andi, IntOp.cmpi]
    · simp [h, h', Scalar.select, Ideal.cmpf_def, Ideal.cmp, IntOp.ori, IntOp.andi]

/-- The reduction of `n + 1` rows is the least entry and the first row holding it. -/
theorem steps_spec (g : ℕ → EReal) : ∀ n : ℕ, n < 2 ^ 31 →
    ∃ i, FirstMin g 0 (n + 1) i ∧ steps (step g) ((⊤ : EReal), 0#32) (n + 1) = (g i, BitVec.ofNat 32 i)
  | 0, _ => ⟨0, FirstMin.single g 0, by
      show step g ((⊤ : EReal), BitVec.ofNat 32 0) 0 = _
      rw [step_eq g _ 0 0 (by decide) (by decide)]
      simp⟩
  | n + 1, hn => by
    obtain ⟨i, hi, e⟩ := steps_spec g n (by omega)
    have h1 := hi.hi
    show ∃ i, FirstMin g 0 (n + 1 + 1) i ∧ step g (steps (step g) ((⊤ : EReal), 0#32) (n + 1)) (n + 1) = (g i, BitVec.ofNat 32 i)
    rw [e, step_eq g _ i (n + 1) (by omega) hn]
    by_cases h : g (n + 1) < g i
    · refine ⟨n + 1, hi.right (FirstMin.single g _) h, ?_⟩
      have h' : ¬ g i < g (n + 1) := not_lt_of_gt h
      have h'' : ¬ g i = g (n + 1) := ne_of_gt h
      simp only [h', h'', false_and, or_self, if_false]
    · refine ⟨i, hi.left (FirstMin.single g _) h, ?_⟩
      rcases lt_or_eq_of_le (le_of_not_gt h) with h' | h'
      · simp only [h', true_or, if_true]
      · have h'' : ¬ g i < g (n + 1) := by rw [h']; exact lt_irrefl _
        simp only [h'', h', if_false, true_and, lt_irrefl, false_or, h1, if_true]

/-- The entries of column `j` in the order the reduction takes them: by row. -/
theorem fiber_eq {α β : Type} (x : S4x4096x2048.Idx → α) (y : S4x4096x2048.Idx → β) (j : S4x2048.Idx) :
    Host.argReduceFiber x y reducesTo_S4x4096x2048_S4x2048_d1 j
      = (List.finRange 4096).map fun r => (x (at3 (j 0).val r.val (j 1).val), y (at3 (j 0).val r.val (j 1).val)) := by
  have key : (List.finRange S4x4096x2048.numel).filter (fun n => decide (reducesTo_S4x4096x2048_S4x2048_d1.drop (S4x4096x2048.rowMajor.symm n) = j))
      = (List.finRange 4096).map fun r => S4x4096x2048.rowMajor (at3 (j 0).val r.val (j 1).val) := by
    have b0 : (j 0).val < 4 := (j 0).isLt
    have b1 : (j 1).val < 2048 := (j 1).isLt
    have hs : ((List.finRange 4096).map fun r => S4x4096x2048.rowMajor (at3 (j 0).val r.val (j 1).val)).Pairwise (· < ·) := by
      rw [List.pairwise_map]
      refine (List.pairwise_lt_finRange _).imp fun {r r'} hr => ?_
      show (_ : Fin _).val < (_ : Fin _).val
      rw [Shape.rowMajor_val_three, Shape.rowMajor_val_three]
      have := r'.isLt
      have hr' : r.val < r'.val := hr
      show ((j 0).val % 4 * 4096 + r.val % 4096) * 2048 + (j 1).val % 2048 < ((j 0).val % 4 * 4096 + r'.val % 4096) * 2048 + (j 1).val % 2048
      omega
    have hf := (List.pairwise_lt_finRange S4x4096x2048.numel).filter
      (fun n => decide (reducesTo_S4x4096x2048_S4x2048_d1.drop (S4x4096x2048.rowMajor.symm n) = j))
    refine List.Perm.eq_of_pairwise (le := (· < ·)) (fun a b _ _ hab hba => absurd hab (not_lt_of_gt hba)) hf hs
      ((List.perm_ext_iff_of_nodup (hf.imp fun h => ne_of_lt h) (hs.imp fun h => ne_of_lt h)).2 fun n => ?_)
    simp only [List.mem_filter, List.mem_finRange, true_and, decide_eq_true_eq, List.mem_map]
    constructor
    · intro hn
      refine ⟨S4x4096x2048.rowMajor.symm n 1, ?_⟩
      rw [← Equiv.eq_symm_apply]
      funext a
      apply Fin.ext
      match a with
      | ⟨0, _⟩ =>
        show (j 0).val % 4 = (S4x4096x2048.rowMajor.symm n 0).val
        rw [Nat.mod_eq_of_lt b0, ← hn]
        exact Shape.ReducesTo.drop_apply_val_of_eq reducesTo_S4x4096x2048_S4x2048_d1 _ 0 0
      | ⟨1, _⟩ => exact Nat.mod_eq_of_lt (S4x4096x2048.rowMajor.symm n 1).isLt
      | ⟨2, _⟩ =>
        show (j 1).val % 2048 = (S4x4096x2048.rowMajor.symm n 2).val
        rw [Nat.mod_eq_of_lt b1, ← hn]
        exact Shape.ReducesTo.drop_apply_val_of_eq reducesTo_S4x4096x2048_S4x2048_d1 _ 1 2
    · rintro ⟨r, rfl⟩
      rw [Equiv.symm_apply_apply]
      funext a
      apply Fin.ext
      match a with
      | ⟨0, _⟩ =>
        exact (Shape.ReducesTo.drop_apply_val_of_eq reducesTo_S4x4096x2048_S4x2048_d1 _ 0 0).trans (Nat.mod_eq_of_lt b0)
      | ⟨1, _⟩ =>
        exact (Shape.ReducesTo.drop_apply_val_of_eq reducesTo_S4x4096x2048_S4x2048_d1 _ 1 2).trans (Nat.mod_eq_of_lt b1)
  unfold Host.argReduceFiber
  rw [key, List.map_map]
  refine List.map_congr_left fun r _ => ?_
  show (x (S4x4096x2048.rowMajor.symm (S4x4096x2048.rowMajor _)), _) = _
  rw [Equiv.symm_apply_apply]

/-- The fold of `n` rows, at least one, listed in order. -/
theorem fold_spec (g : ℕ → EReal) : ∀ n : ℕ, 0 < n → n ≤ 2 ^ 31 →
    ∃ i, FirstMin g 0 n i ∧ (List.finRange n).foldl (fun p r => step g p r.val) ((⊤ : EReal), 0#32) = (g i, BitVec.ofNat 32 i)
  | n + 1, _, h => by
    obtain ⟨i, hi, e⟩ := steps_spec g n (by omega)
    exact ⟨i, hi, (foldl_finRange _ _ _).trans e⟩

/-- One step of the reduction as the operation is given it. -/
theorem step_at (x : FVec Ideal S4x4096x2048 .f32) (b c : ℕ) (p : Ideal .f32 × BitVec 32) (r : Fin 4096) :
    reducer_argmin_f32_i32 (F := Ideal) p (x (at3 b r.val c), iotaInDim S4x4096x2048 32 1 (at3 b r.val c)) = step (fun k => x (at3 b k c)) p r.val := by
  unfold step iotaInDim
  show reducer_argmin_f32_i32 (F := Ideal) p (_, BitVec.ofNat 32 (r.val % 4096)) = _
  rw [Nat.mod_eq_of_lt r.isLt]

/-- The host's arg-min over the extended reals is the left fold of its body over a column's entries. -/
theorem fold_eq {s t u : Shape} {β : Type} {axes : List (Fin s.rank)} (f : Ideal .f32 × β → Ideal .f32 × β → Ideal .f32 × β) (x : FVec Ideal s .f32) (y : s.Idx → β)
    (ix : u.Idx → Ideal .f32) (iy : u.Idx → β) (h : s.ReducesTo axes t) (hu : 0 < u.numel) (j : t.Idx) (a : Ideal .f32) (b : β) (ha : ∀ i, ix i = a) (hb : ∀ i, iy i = b) :
    Host.argReduce f x y ix iy h hu j = (Host.argReduceFiber x y h j).foldl f (a, b) := by
  rw [Ideal.argReduce_eq_reduce2, Host.reduce2_eq_foldl_fiber, ha, hb]

/-- The same row by row. -/
theorem rows_eq (x : FVec Ideal S4x4096x2048 .f32) (j : S4x2048.Idx) (q : Ideal .f32 × BitVec 32) :
    (Host.argReduceFiber x (iotaInDim S4x4096x2048 32 1) reducesTo_S4x4096x2048_S4x2048_d1 j).foldl (reducer_argmin_f32_i32 (F := Ideal)) q
      = (List.finRange 4096).foldl (fun p r => step (fun k => x (at3 (j 0).val k (j 1).val)) p r.val) q := by
  rw [fiber_eq, List.foldl_map]
  exact List.foldl_ext _ _ _ fun p r _ => step_at x _ _ p r

/-- The reference's pair in a column is the fold of the column's rows. -/
theorem pairs_eq (x : FVec Ideal S4x4096x2048 .f32) (j : S4x2048.Idx) :
    pairs (F := Ideal) x j = (List.finRange 4096).foldl (fun p r => step (fun k => x (at3 (j 0).val k (j 1).val)) p r.val) ((⊤ : EReal), 0#32) := by
  rw [pairs, fold_eq reducer_argmin_f32_i32 x (iotaInDim S4x4096x2048 32 1) (constant S_ .f32 0x7F800000#32 : FVec Ideal S_ .f32) (constantI S_ 32 0#32)
    reducesTo_S4x4096x2048_S4x2048_d1 h_S_ j (⊤ : EReal) 0#32 (fun _ => Cert.Argmin.inf_eq_top) (fun _ => rfl), rows_eq]

/-- The second half of a pair. -/
theorem snd_of {ι α β : Type} (p : ι → α × β) (o : ι → β) (h : o = fun j => (p j).2) (j : ι) (a : α) (b : β) (hp : p j = (a, b)) : o j = b := by
  rw [h]
  show (p j).2 = b
  rw [hp]

/-- The row of the reference's pair. -/
theorem out_of_pairs (x : FVec Ideal S4x4096x2048 .f32) (j : S4x2048.Idx) (a : EReal) (b : BitVec 32) (h : pairs (F := Ideal) x j = (a, b)) :
    out (F := Ideal) x j = b :=
  snd_of (pairs (F := Ideal) x) (out (F := Ideal) x) rfl j a b h

/-- The reference's result: in each column the first row where it is least. -/
theorem out_spec (x : FVec Ideal S4x4096x2048 .f32) (j : S4x2048.Idx) :
    ∃ i, FirstMin (α := EReal) (fun k => x (at3 (j 0).val k (j 1).val)) 0 4096 i ∧ out (F := Ideal) x j = BitVec.ofNat 32 i := by
  obtain ⟨i, hi, e⟩ := fold_spec (fun k => x (at3 (j 0).val k (j 1).val)) 4096 (Nat.succ_pos 4095) (by norm_num)
  exact ⟨i, hi, out_of_pairs x j _ _ ((pairs_eq x j).trans e)⟩

end Cert.ArgminRef

end
-- ==== Proof.Merge.lean ====
/-
  The two halves put together, over the extended reals: where the first 2304 rows hold nothing larger than the last 1792
  their row is taken, otherwise the other, and that is the first row of the whole column holding its least entry.
-/
module

public import proofs.«01_k».proof.Proof.Launch
public import proofs.«01_k».proof.Proof.ScValue
public import proofs.«01_k».proof.Proof.TcValue
public import proofs.«01_k».proof.Proof.RefValue

@[expose] public section

noncomputable section

namespace Cert.Argmin

open Cert.KernelIdeal Cert.KernelIdeal.Gen
open Idealize.ShloMosaic Idealize.ShloMosaic.TcCoe

/-- The choice between the two halves of a sequence: `i` the first least place of its first 2304 entries, `s` the scan of the rest. -/
theorem choose_eq (g : ℕ → EReal) (i r : ℕ) (hi : FirstMin g 0 2304 i) (hr : FirstMin g 0 4096 r) :
    (if g i ≤ (cell (F := Ideal) (fun k => g (2304 + k)) 1792).1 then BitVec.ofNat 32 i else (cell (F := Ideal) (fun k => g (2304 + k)) 1792).2) = BitVec.ofNat 32 r := by
  rcases cell_spec g 1792 with ⟨ht, h⟩ | ⟨j, hj, -, h⟩
  · rw [h, if_pos le_top]
    have hrest : ∀ k, 2304 ≤ k → k < 4096 → g k = ⊤ := fun k hk hk' => by
      have := ht (k - 2304) (by omega)
      rwa [show 2304 + (k - 2304) = k by omega] at this
    have hi' : FirstMin g 0 4096 i := by
      have := hi.hi
      refine ⟨hi.lo, by omega, fun k hk hk' => ?_, hi.lt⟩
      rcases Nat.lt_or_ge k 2304 with hn | hn
      · exact hi.le k hk hn
      · rw [hrest k hn hk']; exact le_top
    rw [hi'.unique hr]
  · rw [h]
    dsimp only
    by_cases hle : g i ≤ g j
    · rw [if_pos hle, (hi.left hj (not_lt_of_ge hle)).unique hr]
    · rw [if_neg hle, (hi.right hj (lt_of_not_ge hle)).unique hr]

variable (m : (ℓ : Loc nD τ sig) → Buf (Elt Ideal) ℓ) (d : Dev nD)

/-- Entry `(b, 0, c)` of the TensorCore kernel's results. -/
def at3r (j : S4x2048.Idx) : S4x1x2048.Idx := fun
  | 0 => j 0 | 1 => ⟨0, Nat.one_pos⟩ | 2 => j 1

/-- Those results without their unit axis. -/
theorem drop_mid {α : Type} (w : S4x1x2048.Idx → α) (j : S4x2048.Idx) : shapeCast S4x2048 w shapeCasts_S4x1x2048_S4x2048 j = w (at3r j) := by
  refine shapeCast_apply w _ j (at3r j) ?_
  rw [Shape.rowMajor_val_three, Shape.rowMajor_val_two]
  show ((j 0).val * 1 + 0) * 2048 + (j 1).val = (j 0).val * 2048 + (j 1).val
  omega

/-- The kernel's result is the reference's: in every column the first row holding the least entry. -/
theorem merged_eq : (W3 (F := Ideal) m d (Proc.devRef .tc main_v5) : S4x2048.Idx → BitVec 32) = Cert.ArgminRef.out (F := Ideal) (m (xLoc d)) := by
  have ex : V1 m d main_arg0 = m (xLoc d) := W1_x m d
  rw [W3_y, arr_1, arr_2]
  funext j
  obtain ⟨i, hi, e1, e2⟩ := res_spec (V1 m) d (at3r j)
  obtain ⟨r, hr, er⟩ := Cert.ArgminRef.out_spec (m (xLoc d)) j
  rw [ex] at hi e1
  rw [er]
  show Scalar.select (FloatOps.cmpf (F := Ideal) (φ := .f32) .ole (shapeCast S4x2048 (resF (V1 m) d) shapeCasts_S4x1x2048_S4x2048 j) (vOut m d j))
    (shapeCast S4x2048 (resI (V1 m) d) shapeCasts_S4x1x2048_S4x2048 j) (iOut m d j) = _
  rw [drop_mid, drop_mid, e1, e2, select_ole]
  exact choose_eq (colOf (m (xLoc d)) (j 0).val (j 1).val) i r hi hr

end Cert.Argmin

end
-- ==== Proof.lean ====
/-
  The five claims of `Cert.Claim`, put together: the kernel's run over any float values (`Cert.Argmin.run_main`) read as
  the two frames, the reference's run (`Cert.ArgminRef.run_main`) as its frame, and the equality of the two results over
  the extended reals (`Cert.Argmin.merged_eq`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init
public import proofs.«01_k».proof.Proof.Launch
public import proofs.«01_k».proof.Proof.Ref
public import proofs.«01_k».proof.Proof.Merge

@[expose] public section

set_option maxRecDepth 16384

noncomputable section

namespace Cert.Proof

open Idealize.ShloMosaic Idealize.ShloMosaic.StableHlo Idealize.SL.Sem

/-- The kernel's operand ends as it was, whatever the float values. -/
theorem kept_x {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : Cert.Argmin.QC m r) (c : Dev Cert.KernelIdeal.nD) :
    r.2.mem ((c.tc : Thread Cert.KernelIdeal.nD Cert.KernelIdeal.τ).loc Cert.KernelIdeal.main_arg0)
      = m ((c.tc : Thread Cert.KernelIdeal.nD Cert.KernelIdeal.τ).loc Cert.KernelIdeal.main_arg0) :=
  (h.1 c Cert.Argmin.x' (by decide)).trans (Cert.Argmin.W3_x m c)

/-- The kernel as written and the kernel read over the extended reals have the same bodies: one text, printed twice. -/
theorem bodies_eq : Cert.Kernel.defs₀ (F := Bits) = Cert.KernelIdeal.defs₀ (F := Bits) := by
  funext p ℓ a
  match p, ℓ, a with
  | .scVector c s, 0, _ => rfl
  | .scVector c s, 1, _ => rfl
  | .tc, 1, (t, s) => rfl
  | .tc, 0, _ => rfl
  | .scScalar c, 0, _ => rfl
  | .scScalar c, 1, _ => rfl

/-- The same with the launch's bodies beside them. -/
theorem defs_eq : Cert.Kernel.defs (F := Bits) = Cert.KernelIdeal.defs (F := Bits) := by
  unfold Cert.Kernel.defs Cert.KernelIdeal.defs
  rw [bodies_eq]
  rfl

/-- And the same threads. -/
theorem threads_eq : Cert.Kernel.threads (F := Bits) = Cert.KernelIdeal.threads (F := Bits) := rfl

/-- The kernel as written: it runs, its operand ends unchanged, every counter ends at zero. -/
theorem frame_kernel : Cert.quiescent_Kernel := by
  intro m ρ _
  have h := (θ_run (Cert.KernelIdeal.defs (F := Bits)) (Cert.KernelIdeal.threads (F := Bits)) ⟨m, fun _ => 0, ρ⟩).mono
    (fun r (h : Cert.Argmin.QC m r) => (⟨fun c => kept_x h c, h.2⟩ :
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0))
    (Cert.Argmin.run_main (F := Bits) m ρ)
  rw [defs_eq, threads_eq]
  exact h

/-- The kernel over the extended reals: it runs, its operand ends unchanged, every counter ends at zero. -/
theorem frame_ideal : Cert.quiescent_KernelIdeal := fun m ρ _ =>
  (θ_run Cert.KernelIdeal.defs _ _).mono (fun _ h => ⟨fun c => kept_x h c, h.2⟩) (Cert.Argmin.run_main (F := Ideal) m ρ)

/-- The reference: it runs, its operand ends unchanged; it has no counter. -/
theorem frame_ref : Cert.quiescent_ReferenceIdeal := fun m ρ _ =>
  (θ_run Cert.ReferenceIdeal.defs _ _).mono
    (fun r h => ⟨fun c => (h c Cert.ReferenceIdeal.main_arg0).trans (Cert.ArgminRef.arg0_eq _), Idealize.ShloMosaic.sem_eq_zero_of_no_sems (by decide) r.2⟩)
    (Cert.ArgminRef.run_main (F := Ideal) m ρ)

/-- What the reference makes of contents whose operand is the kernel's is what the kernel's result ends as. -/
theorem result_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (hx : V (Proc.devRef .tc Cert.ReferenceIdeal.main_arg0) = m (Cert.Argmin.xLoc c)) :
    after Cert.ArgminRef.ops V (Proc.devRef .tc Cert.ReferenceIdeal.main_v0)
      = Cert.Argmin.W3 m c (Proc.devRef .tc Cert.KernelIdeal.main_v5) :=
  (Cert.ArgminRef.out_eq (F := Ideal) V).trans
    ((congrArg (Cert.ArgminRef.out (F := Ideal)) hx).trans (Cert.Argmin.merged_eq m c).symm)

/-- Over the extended reals the kernel and the reference end with the same result, from the same operand. -/
theorem algebraic : Cert.algebraic_KernelIdeal_ReferenceIdeal := by
  intro m g m' g' _ hx
  refine ⟨fun c => Cert.Argmin.W3 m c (Proc.devRef .tc Cert.KernelIdeal.main_v5), ?_, ?_⟩
  · exact (θ_run Cert.KernelIdeal.defs _ _).mono (fun _ h c => ⟨h.1 c (Proc.devRef .tc Cert.KernelIdeal.main_v5) (by decide), kept_x h c⟩)
      (Cert.Argmin.run_main (F := Ideal) m g)
  · refine (θ_run Cert.ReferenceIdeal.defs _ _).mono (fun _ h c => ?_) (Cert.ArgminRef.run_main (F := Ideal) m' g')
    exact ⟨(h c Cert.ReferenceIdeal.main_v0).trans (result_eq m c _ (hx c)), (h c Cert.ReferenceIdeal.main_arg0).trans (Cert.ArgminRef.arg0_eq _)⟩

/-- Every claim of the certificate. -/
theorem claim : Cert.Claim := ⟨Cert.Kernel.Gen.facts, Cert.KernelIdeal.Gen.facts, Cert.ReferenceIdeal.Gen.facts,
  frame_kernel, frame_ideal, frame_ref, trivial, algebraic⟩

end Cert.Proof

end
